-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 512, 512]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 512, 4, 64]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 512, 512]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S_ : Shape := ⟨0, ![]⟩

class Facts : Prop where
  bcast_S_S2x512x512 : S_.BroadcastsInDim S2x512x512 (![] : Fin 0 → Fin S2x512x512.rank)
  reducesTo_S2x512x512_S_d0_1_2 : S2x512x512.ReducesTo [0, 1, 2] S_
  h_S_ : 0 < S_.numel
  bcast_S_S512x256 : S_.BroadcastsInDim S512x256 (![] : Fin 0 → Fin S512x256.rank)
  reducesTo_S512x256_S_d0_1 : S512x256.ReducesTo [0, 1] S_
  bcast_S_S2x512x4x64 : S_.BroadcastsInDim S2x512x4x64 (![] : Fin 0 → Fin S2x512x4x64.rank)
  reducesTo_S2x512x4x64_S_d0_1_2_3 : S2x512x4x64.ReducesTo [0, 1, 2, 3] S_

variable [Facts]

def fn {F : FTy → Type} [FloatOps F] (main_arg0 : FVec F S2x512x512 .f32) (main_arg1 : FVec F S512x256 .f32) (main_arg2 : FVec F S2x512x4x64 .f32) (main_arg3 : FVec F S2x512x4x64 .f32) (main_arg4 : FVec F S256x512 .f32) : IVec S_ 1 :=
  let main_v0 : FVec F S2x512x512 .f32 := Host.absf main_arg0
  let main_cst : FVec F S_ .f32 := constant S_ .f32 0x7F800000#32
  let main_v1 : FVec F S2x512x512 .f32 := broadcastInDim S2x512x512 ![] bcast_S_S2x512x512 main_cst
  let main_v2 : IVec S2x512x512 1 := cmpf .olt main_v0 main_v1
  let main_c : IVec S_ 1 := constantI S_ 1 1#1
  let main_v3 : IVec S_ 1 := (fun x v => Host.reduce IntOp.andi x v reducesTo_S2x512x512_S_d0_1_2 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S2x512x4x64 .f32 := Host.absf main_arg2
  let main_cst_2 : FVec F S_ .f32 := constant S_ .f32 0x7F800000#32
  let main_v10 : FVec F S2x512x4x64 .f32 := broadcastInDim S2x512x4x64 ![] bcast_S_S2x512x4x64 main_cst_2
  let main_v11 : IVec S2x512x4x64 1 := cmpf .olt main_v9 main_v10
  let main_c_3 : IVec S_ 1 := constantI S_ 1 1#1
  let main_v12 : IVec S_ 1 := (fun x v => Host.reduce IntOp.andi x v reducesTo_S2x512x4x64_S_d0_1_2_3 h_S_) main_v11 main_c_3
  let main_v13 : IVec S_ 1 := andi main_v8 main_v12
  main_v13
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S4x2x2x128x256 : Shape := ⟨5, ![4, 2, 2, 128, 256]⟩
abbrev S4 : Shape := ⟨1, ![4]⟩
abbrev S5 : Shape := ⟨1, ![5]⟩
abbrev S_ : Shape := ⟨0, ![]⟩
abbrev S1 : Shape := ⟨1, ![1]⟩
abbrev S2x128x256 : Shape := ⟨3, ![2, 128, 256]⟩
abbrev S1x2x128x256 : Shape := ⟨4, ![1, 2, 128, 256]⟩
abbrev S1x1x2x128x256 : Shape := ⟨5, ![1, 1, 2, 128, 256]⟩
abbrev S1x2x2x128x256 : Shape := ⟨5, ![1, 2, 2, 128, 256]⟩
abbrev S2x2x128x256 : Shape := ⟨4, ![2, 2, 128, 256]⟩
abbrev S1x128x512 : Shape := ⟨3, ![1, 128, 512]⟩
abbrev S128x512 : Shape := ⟨2, ![128, 512]⟩
abbrev S128x256 : Shape := ⟨2, ![128, 256]⟩
abbrev S128x128 : Shape := ⟨2, ![128, 128]⟩
abbrev S128x64 : Shape := ⟨2, ![128, 64]⟩
abbrev S128x1 : Shape := ⟨2, ![128, 1]⟩
abbrev S1x1x1x128x64 : Shape := ⟨5, ![1, 1, 1, 128, 64]⟩
abbrev S128 : Shape := ⟨1, ![128]⟩

abbrev nBuf : Space → Nat
  | .hbm => 6
  | .vmem => 7
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S4x2x2x128x256, .bf16⟩
  | .local _ .vmem, ⟨2, _⟩ => ⟨S2x128x512, .f32⟩
  | .local _ .vmem, ⟨3, _⟩ => ⟨S512x256, .f32⟩
  | .local _ .vmem, ⟨4, _⟩ => ⟨S2x128x4x64, .f32⟩
  | .local _ .vmem, ⟨5, _⟩ => ⟨S2x128x4x64, .f32⟩
  | .local _ .vmem, ⟨6, _⟩ => ⟨S256x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 5 14 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch4 : Ref sig .tc := ⟨.vmem, 2, rfl⟩
abbrev cc0_scratch5 : Ref sig .tc := ⟨.vmem, 3, rfl⟩
abbrev cc0_scratch6 : Ref sig .tc := ⟨.vmem, 4, rfl⟩
abbrev cc0_scratch7 : Ref sig .tc := ⟨.vmem, 5, rfl⟩
abbrev cc0_scratch8 : Ref sig .tc := ⟨.vmem, 6, rfl⟩
abbrev cc0_sem0_0 : DmaSem sig := 0
abbrev barrier0 : Sem sig := 4

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_cond1 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_33 : BitVec 32 := 1#32
  let v53 : BitVec 1 := Scalar.cmpi .eq v2 c1_i32_33
  let v54 : BitVec 32 := Scalar.extui v53
  let c0_i32_34 : BitVec 32 := 0#32
  let v55 : BitVec 1 := Scalar.cmpi .ne v54 c0_i32_34
  v55

def k0_dev4 : Nat :=
  let c0_i32_646 : BitVec 32 := 0#32
  let c0_i32_644 : BitVec 32 := 0#32
  let c1_i32_645 : BitVec 32 := 1#32
  let v891 : BitVec 32 := Scalar.muli c0_i32_644 c1_i32_645
  let v892 : BitVec 32 := Scalar.addi c0_i32_646 v891
  v892.toNat
def k0_cond2 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_35 : BitVec 32 := 2#32
  let v56 : BitVec 1 := Scalar.cmpi .eq v2 c2_i32_35
  let v57 : BitVec 32 := Scalar.extui v56
  let c0_i32_36 : BitVec 32 := 0#32
  let v58 : BitVec 1 := Scalar.cmpi .ne v57 c0_i32_36
  v58

def k0_dev5 : Nat :=
  let c0_i32_646 : BitVec 32 := 0#32
  let c0_i32_644 : BitVec 32 := 0#32
  let c1_i32_645 : BitVec 32 := 1#32
  let v891 : BitVec 32 := Scalar.muli c0_i32_644 c1_i32_645
  let v892 : BitVec 32 := Scalar.addi c0_i32_646 v891
  v892.toNat
def k0_dev6 : Nat :=
  let c0_i32_651 : BitVec 32 := 0#32
  let c1_i32_649 : BitVec 32 := 1#32
  let c1_i32_650 : BitVec 32 := 1#32
  let v895 : BitVec 32 := Scalar.muli c1_i32_649 c1_i32_650
  let v896 : BitVec 32 := Scalar.addi c0_i32_651 v895
  v896.toNat
def k0_cond3 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_37 : BitVec 32 := 3#32
  let v59 : BitVec 1 := Scalar.cmpi .eq v2 c3_i32_37
  let v60 : BitVec 32 := Scalar.extui v59
  let c0_i32_38 : BitVec 32 := 0#32
  let v61 : BitVec 1 := Scalar.cmpi .ne v60 c0_i32_38
  v61

def k0_dev7 : Nat :=
  let c0_i32_646 : BitVec 32 := 0#32
  let c0_i32_644 : BitVec 32 := 0#32
  let c1_i32_645 : BitVec 32 := 1#32
  let v891 : BitVec 32 := Scalar.muli c0_i32_644 c1_i32_645
  let v892 : BitVec 32 := Scalar.addi c0_i32_646 v891
  v892.toNat
def k0_dev8 : Nat :=
  let c0_i32_651 : BitVec 32 := 0#32
  let c1_i32_649 : BitVec 32 := 1#32
  let c1_i32_650 : BitVec 32 := 1#32
  let v895 : BitVec 32 := Scalar.muli c1_i32_649 c1_i32_650
  let v896 : BitVec 32 := Scalar.addi c0_i32_651 v895
  v896.toNat
def k0_dev9 : Nat :=
  let c0_i32_656 : BitVec 32 := 0#32
  let c2_i32_654 : BitVec 32 := 2#32
  let c1_i32_655 : BitVec 32 := 1#32
  let v899 : BitVec 32 := Scalar.muli c2_i32_654 c1_i32_655
  let v900 : BitVec 32 := Scalar.addi c0_i32_656 v899
  v900.toNat
def k0_off1 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v70 : Index := Scalar.indexCast v2
  let c0_44 : Index := 0#32
  let c0_45 : Index := 0#32
  let c0_46 : Index := 0#32
  let c0_47 : Index := 0#32
  ![v70.toNat, 0, 0, 0, 0]
def k0_off2 (d0 : Dev nD) : Fin 5 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v78 : Index := Scalar.indexCast v2
  let c1 : Index := 1#32
  let c0_52 : Index := 0#32
  let c0_53 : Index := 0#32
  let c0_54 : Index := 0#32
  ![v78.toNat, 1, 0, 0, 0]
def k0_cond4 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_55 : BitVec 32 := 0#32
  let v82 : BitVec 1 := Scalar.cmpi .eq v2 c0_i32_55
  let v83 : BitVec 32 := Scalar.extui v82
  let c0_i32_56 : BitVec 32 := 0#32
  let v84 : BitVec 1 := Scalar.cmpi .ne v83 c0_i32_56
  v84

def k0_dev10 : Nat :=
  let c0_i32_651 : BitVec 32 := 0#32
  let c1_i32_649 : BitVec 32 := 1#32
  let c1_i32_650 : BitVec 32 := 1#32
  let v891 : BitVec 32 := Scalar.muli c1_i32_649 c1_i32_650
  let v892 : BitVec 32 := Scalar.addi c0_i32_651 v891
  v892.toNat
def k0_dev11 : Nat :=
  let c0_i32_669 : BitVec 32 := 0#32
  let c3_i32_667 : BitVec 32 := 3#32
  let c1_i32_668 : BitVec 32 := 1#32
  let v903 : BitVec 32 := Scalar.muli c3_i32_667 c1_i32_668
  let v904 : BitVec 32 := Scalar.addi c0_i32_669 v903
  v904.toNat
def k0_dev12 : Nat :=
  let c0_i32_687 : BitVec 32 := 0#32
  let c2_i32_685 : BitVec 32 := 2#32
  let c1_i32_686 : BitVec 32 := 1#32
  let v915 : BitVec 32 := Scalar.muli c2_i32_685 c1_i32_686
  let v916 : BitVec 32 := Scalar.addi c0_i32_687 v915
  v916.toNat
def k0_cond5 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_57 : BitVec 32 := 1#32
  let v85 : BitVec 1 := Scalar.cmpi .eq v2 c1_i32_57
  let v86 : BitVec 32 := Scalar.extui v85
  let c0_i32_58 : BitVec 32 := 0#32
  let v87 : BitVec 1 := Scalar.cmpi .ne v86 c0_i32_58
  v87

def k0_dev13 : Nat :=
  let c0_i32_651 : BitVec 32 := 0#32
  let c2_i32_649 : BitVec 32 := 2#32
  let c1_i32_650 : BitVec 32 := 1#32
  let v891 : BitVec 32 := Scalar.muli c2_i32_649 c1_i32_650
  let v892 : BitVec 32 := Scalar.addi c0_i32_651 v891
  v892.toNat
def k0_dev14 : Nat :=
  let c0_i32_669 : BitVec 32 := 0#32
  let c3_i32_667 : BitVec 32 := 3#32
  let c1_i32_668 : BitVec 32 := 1#32
  let v903 : BitVec 32 := Scalar.muli c3_i32_667 c1_i32_668
  let v904 : BitVec 32 := Scalar.addi c0_i32_669 v903
  v904.toNat
def k0_cond6 (d0 : Dev nD) : BitVec 1 :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_59 : BitVec 32 := 2#32
  let v88 : BitVec 1 := Scalar.cmpi .eq v2 c2_i32_59
  let v89 : BitVec 32 := Scalar.extui v88
  let c0_i32_60 : BitVec 32 := 0#32
  let v90 : BitVec 1 := Scalar.cmpi .ne v89 c0_i32_60
  v90

def k0_dev15 : Nat :=
  let c0_i32_651 : BitVec 32 := 0#32
  let c3_i32_649 : BitVec 32 := 3#32
  let c1_i32_650 : BitVec 32 := 1#32
  let v891 : BitVec 32 := Scalar.muli c3_i32_649 c1_i32_650
  let v892 : BitVec 32 := Scalar.addi c0_i32_651 v891
  v892.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x512 : Shape := ⟨3, ![2, 512, 512]⟩
abbrev S512x256 : Shape := ⟨2, ![512, 256]⟩
abbrev S2x512x4x64 : Shape := ⟨4, ![2, 512, 4, 64]⟩
abbrev S256x512 : Shape := ⟨2, ![256, 512]⟩
abbrev S2x512x256 : Shape := ⟨3, ![2, 512, 256]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x4x512x512 : Shape := ⟨4, ![2, 4, 512, 512]⟩
abbrev S1x1x512x512 : Shape := ⟨4, ![1, 1, 512, 512]⟩
abbrev S2x4x512 : Shape := ⟨3, ![2, 4, 512]⟩
abbrev S2x4x512x1 : Shape := ⟨4, ![2, 4, 512, 1]⟩
abbrev S1x1x512x1 : Shape := ⟨4, ![1, 1, 512, 1]⟩
abbrev S2x4x64x512 : Shape := ⟨4, ![2, 4, 64, 512]⟩

abbrev nBuf : Space → Nat
  | .hbm => 89
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x256, .f32⟩
  | .hbm, ⟨2, _⟩ => ⟨S2x512x4x64, .f32⟩
  | .hbm, ⟨3, _⟩ => ⟨S2x512x4x64, .f32⟩
  | .hbm, ⟨4, _⟩ => ⟨S256x512, .f32⟩
  | .hbm, ⟨5, _⟩ => ⟨S2x512x256, .f32⟩
  | .hbm, ⟨6, _⟩ => ⟨S2x512x4x64, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S_, .i32⟩
  | .hbm, ⟨14, _⟩ => ⟨S512, .i32⟩
  | .hbm, ⟨15, _⟩ => ⟨S512, .i1⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i1⟩
  | .hbm, ⟨22, _⟩ => ⟨S_, .i32⟩
  | .hbm, ⟨23, _⟩ => ⟨S512, .i32⟩
  | .hbm, ⟨24, _⟩ => ⟨S512, .i32⟩
  | .hbm, ⟨25, _⟩ => ⟨S512, .i32⟩
  | .hbm, ⟨26, _⟩ => ⟨S512x1, .i32⟩
  | .hbm, ⟨27, _⟩ => ⟨S512, .i32⟩
  | .hbm, ⟨28, _⟩ => ⟨S_, .i32⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S_, .i32⟩
  | .hbm, ⟨34, _⟩ => ⟨S512, .i32⟩
  | .hbm, ⟨35, _⟩ => ⟨S512, .i1⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i1⟩
  | .hbm, ⟨42, _⟩ => ⟨S_, .i32⟩
  | .hbm, ⟨43, _⟩ => ⟨S512, .i32⟩
  | .hbm, ⟨44, _⟩ => ⟨S512, .i32⟩
  | .hbm, ⟨45, _⟩ => ⟨S512, .i32⟩
  | .hbm, ⟨46, _⟩ => ⟨S1x512, .i32⟩
  | .hbm, ⟨47, _⟩ => ⟨S512x512, .i32⟩
  | .hbm, ⟨48, _⟩ => ⟨S512x512, .i32⟩
  | .hbm, ⟨49, _⟩ => ⟨S512x512, .i1⟩
  | .hbm, ⟨50, _⟩ => ⟨S2x4x512x512, .f32⟩
  | .hbm, ⟨51, _⟩ => ⟨S_, .f32⟩
  | .hbm, ⟨52, _⟩ => ⟨S2x4x512x512, .f32⟩
  | .hbm, ⟨53, _⟩ => ⟨S2x4x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S2x4x512x512, .i1⟩
  | .hbm, ⟨58, _⟩ => ⟨S2x4x512x512, .f32⟩
  | .hbm, ⟨59, _⟩ => ⟨S2x4x512x512, .f32⟩
  | .hbm, ⟨60, _⟩ => ⟨S_, .f32⟩
  | .hbm, ⟨61, _⟩ => ⟨S2x4x512, .f32⟩
  | .hbm, ⟨62, _⟩ => ⟨S2x4x512x1, .f32⟩
  | .hbm, ⟨63, _⟩ => ⟨S2x4x512x512, .f32⟩
  | .hbm, ⟨64, _⟩ => ⟨S2x4x512x512, .f32⟩
  | .hbm, ⟨65, _⟩ => ⟨S2x4x512x512, .f32⟩
  | .hbm, ⟨66, _⟩ => ⟨S_, .i1⟩
  | .hbm, ⟨67, _⟩ => ⟨S512, .i1⟩
  | .hbm, ⟨68, _⟩ => ⟨S1x1x512x1, .i1⟩
  | .hbm, ⟨69, _⟩ => ⟨S_, .f32⟩
  | .hbm, ⟨70, _⟩ => ⟨S2x4x512, .f32⟩
  | .hbm, ⟨71, _⟩ => ⟨S2x4x512x1, .f32⟩
  | .hbm, ⟨72, _⟩ => ⟨S_, .f32⟩
  | .hbm, ⟨73, _⟩ => ⟨S_, .f32⟩
  | .hbm, ⟨74, _⟩ => ⟨S2x4x512x1, .i1⟩
  | .hbm, ⟨75, _⟩ => ⟨S2x4x512x1, .f32⟩
  | .hbm, ⟨76, _⟩ => ⟨S2x4x512x1, .f32⟩
  | .hbm, ⟨77, _⟩ => ⟨S2x4x512x512, .f32⟩
  | .hbm, ⟨78, _⟩ => ⟨S2x4x512x512, .f32⟩
  | .hbm, ⟨79, _⟩ => ⟨S1x1x512x1, .i1⟩
  | .hbm, ⟨80, _⟩ => ⟨S_, .f32⟩
  | .hbm, ⟨81, _⟩ => ⟨S_, .f32⟩
  | .hbm, ⟨82, _⟩ => ⟨S2x4x512x512, .i1⟩
  | .hbm, ⟨83, _⟩ => ⟨S2x4x512x512, .f32⟩
  | .hbm, ⟨84, _⟩ => ⟨S2x4x512x512, .f32⟩
  | .hbm, ⟨85, _⟩ => ⟨S2x4x64x512, .f32⟩
  | .hbm, ⟨86, _⟩ => ⟨S2x512x4x64, .f32⟩
  | .hbm, ⟨87, _⟩ => ⟨S2x512x256, .f32⟩
  | .hbm, ⟨88, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.KernelIdealProto.lean ====
/-
The protocol of the kernel over the four devices.

Each device first meets the other three at the barrier. Device `c` then tells every device `o < c`, on that
device's ready counter number `c`, that slot `o` of its own key/value buffer may be written. It fills slot `c` of
its buffer, and sends that slot to every device `d > c` that has reported ready. A device waits for slot `s < c`
on its receive counter number `s`.

This file states the counters, what each raise hands over, what each device owes when the kernel starts, and the
order in which the counters are waited for.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The ghost state of the protocol: a duty is named by the device that pays it. -/
abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR : Emb (UB × Counters) (MT nD τ sig Unit (Elt F) ℕ UU ℕ))
abbrev EC : UEmb Counters (MT nD τ sig Unit (Elt F) ℕ UU ℕ) := countersEmb

variable (m : (ℓ : Loc nD τ sig) → Buf (Elt F) ℓ)

/-! ## Memrefs, semaphores, cells -/

abbrev kvM : Memref sig .tc .vmem S4x2x2x128x256 .bf16 := Memref.whole cc0_scratch0

abbrev barS : Sem sig := barrier0
/-- The ready counter of peer `i`, the send counter to `d`, the receive counter from `s`, the local-copy counters. -/
def crdS (i : Fin 4) : Sem sig := ⟨i.val, Nat.lt_of_lt_of_le i.isLt (by decide)⟩
def sndS (d : Fin 4) : DmaSem sig := ⟨1 + d.val, by have := d.isLt; show 1 + d.val < 14; omega⟩
def rcvS (s : Fin 4) : DmaSem sig := ⟨5 + s.val, by have := s.isLt; show 5 + s.val < 14; omega⟩
def locS (j : Fin 5) : DmaSem sig := ⟨9 + j.val, by have := j.isLt; show 9 + j.val < 14; omega⟩

abbrev barCell (c : Dev nD) : GSem nD τ sig := ((c : Thread nD τ), .reg barS)
abbrev crdCell (c i : Dev nD) : GSem nD τ sig := ((c : Thread nD τ), .reg (crdS i))
abbrev sndCell (c d : Dev nD) : GSem nD τ sig := ((c : Thread nD τ), .dma (sndS d))
abbrev rcvCell (c s : Dev nD) : GSem nD τ sig := ((c : Thread nD τ), .dma (rcvS s))
abbrev locCell (c : Dev nD) (j : Fin 5) : GSem nD τ sig := ((c : Thread nD τ), .dma (locS j))

/-! ## The key/value buffer: its four slots and what they come to hold -/

/-- The elements of slot `n`. -/
def slotSet (n : Fin 4) : Finset S4x2x2x128x256.Idx := Finset.univ.filter fun i => (i 0).val = n.val

theorem mem_slotSet {n : Fin 4} {i : S4x2x2x128x256.Idx} : i ∈ slotSet n ↔ (i 0).val = n.val := by
  unfold slotSet; rw [Finset.mem_filter]; exact ⟨fun h => h.2, fun h => ⟨Finset.mem_univ _, h⟩⟩

theorem slotSet_disjoint {n n' : Fin 4} (h : n ≠ n') : Disjoint (slotSet n) (slotSet n') :=
  Finset.disjoint_left.mpr fun i hi hi' => h (Fin.ext ((mem_slotSet.mp hi).symm.trans (mem_slotSet.mp hi')))

theorem slotSet_cover : (Finset.univ : Finset (Fin 4)).biUnion slotSet = Finset.univ :=
  Finset.eq_univ_iff_forall.mpr fun i => Finset.mem_biUnion.mpr ⟨⟨(i 0).val, (i 0).isLt⟩, Finset.mem_univ _, mem_slotSet.mpr rfl⟩

/-- The two halves of device `d`'s slot: keys, values. -/
abbrev rectK (d : Dev nD) : Rect S4x2x2x128x256 := Rect.unit (s := S4x2x2x128x256) (k0_off1 d) S1x1x2x128x256.size (k0_off1_inb d)
abbrev rectV (d : Dev nD) : Rect S4x2x2x128x256 := Rect.unit (s := S4x2x2x128x256) (k0_off2 d) S1x1x2x128x256.size (k0_off2_inb d)

/-- The buffer after device `d` has stored its keys and values over contents `f`. -/
def stored (d : Dev nD) (f : (cc0_scratch0 : Ref sig .tc).ty.Contents (Elt F)) : (cc0_scratch0 : Ref sig .tc).ty.Contents (Elt F) :=
  (kvM.access (rectV d) : View sig .tc _ _ _).write (Elt F)
    ((kvM.access (rectK d) : View sig .tc _ _ _).write (Elt F) f (k0_pay1 (m ((d : Thread nD τ).loc main_arg2))) Finset.univ)
    (k0_pay2 (m ((d : Thread nD τ).loc main_arg3))) Finset.univ

/-- What the buffer comes to hold: slot `n` the keys and values of device `n`. -/
def KV : (cc0_scratch0 : Ref sig .tc).ty.Contents (Elt F) := fun i =>
  stored m ⟨(i 0).val, (i 0).isLt⟩ (m (((0 : Dev nD) : Thread nD τ).loc cc0_scratch0)) i

theorem rects_of_slot (d : Dev nD) {i : S4x2x2x128x256.Idx} (hi : i ∈ slotSet d) : i ∈ (rectK d).set ∨ i ∈ (rectV d).set := by
  rw [mem_slotSet] at hi
  have h1 : (i 1).val < 2 := (i 1).isLt
  rcases Nat.lt_or_ge (i 1).val 1 with h | h
  · left
    rw [Rect.mem_set_unit, k0_off1_eq]
    intro a
    have := (i a).isLt
    fin_cases a <;> simp_all <;> omega
  · right
    rw [Rect.mem_set_unit, k0_off2_eq]
    intro a
    have := (i a).isLt
    fin_cases a <;> simp_all <;> omega

theorem rectK_sub (d : Dev nD) : (kvM.access (rectK d)).set ⊆ slotSet d := by
  intro i hi
  rw [View.set_slice_whole, Rect.mem_set_unit, k0_off1_eq] at hi
  have := hi 0
  rw [mem_slotSet]; simp at this; omega
theorem rectV_sub (d : Dev nD) : (kvM.access (rectV d)).set ⊆ slotSet d := by
  intro i hi
  rw [View.set_slice_whole, Rect.mem_set_unit, k0_off2_eq] at hi
  have := hi 0
  rw [mem_slotSet]; simp at this; omega

/-- A write over every element of a view leaves the same value under the view, whatever was there. -/
theorem write_univ_congr {κ : Kind} {sp : Space} {s : Shape} {e : EltTy} (v : View sig κ sp s e) (f g : v.ty.Contents (Elt F)) (w : s.Idx → Elt F e) {i : v.ty.Idx}
    (h : i ∈ v.set ∨ f i = g i) : v.write (Elt F) f w Finset.univ i = v.write (Elt F) g w Finset.univ i := by
  by_cases hi : i ∈ v.set
  · obtain ⟨x, -, rfl⟩ := Finset.mem_map.mp hi
    rw [View.write_emb_of_mem _ _ (Finset.mem_univ _), View.write_emb_of_mem _ _ (Finset.mem_univ _)]
  · rw [View.write_of_not_mem _ _ _ hi, View.write_of_not_mem _ _ _ hi]
    exact h.resolve_left hi

theorem stored_eq (d : Dev nD) (f : (cc0_scratch0 : Ref sig .tc).ty.Contents (Elt F)) : ∀ i ∈ slotSet d, stored m d f i = KV m i := by
  intro i hi
  have hd : (⟨(i 0).val, (i 0).isLt⟩ : Dev nD) = d := Fin.ext (mem_slotSet.mp hi)
  unfold KV
  rw [hd]
  unfold stored
  apply write_univ_congr
  rcases rects_of_slot d hi with h | h
  · right
    apply write_univ_congr
    left
    rw [View.set_slice_whole]; exact h
  · left
    rw [View.set_slice_whole]; exact h

/-- Slot `n` of device `c`'s buffer at share `q`. -/
def slotPts (q : PosShare TreeShare) (c : Dev nD) (n : Fin 4) (f : (cc0_scratch0 : Ref sig .tc).ty.Contents (Elt F)) : sProp 𝕄 :=
  ((c : Thread nD τ).loc cc0_scratch0) ↦[slotSet n]{q} f

omit [FloatOps F] [Named F] in
instance slotPts_storable (q) (c : Dev nD) (n : Fin 4) (f) : BI.Storable (upEmb : UEmb _ 𝕄) (slotPts (F := F) q c n f) := by unfold slotPts; infer_instance

theorem slotPts_stored (c : Dev nD) (f : (cc0_scratch0 : Ref sig .tc).ty.Contents (Elt F)) (q : PosShare TreeShare) :
    slotPts q c c (stored m c f) = slotPts q c c (KV m) := by
  unfold slotPts; exact pointsTo_congr (stored_eq m c f)

omit [FloatOps F] [Named F] in
/-- The whole buffer is its four slots. -/
theorem slots_eq (c : Dev nD) (f : (cc0_scratch0 : Ref sig .tc).ty.Contents (Elt F)) :
    ((((c : Thread nD τ).loc cc0_scratch0) ↦{fullShare} f : sProp 𝕄)) = bigSep Finset.univ fun n : Fin 4 => slotPts fullShare c n f := by
  rw [← slotSet_cover]
  exact pointsTo_biUnion _ _ fun t _ t' _ h => slotSet_disjoint h

omit [FloatOps F] [Named F] in
/-- The four slots, each at some contents, are the whole buffer at some contents. -/
theorem slots_join (c : Dev nD) (f₀ : (cc0_scratch0 : Ref sig .tc).ty.Contents (Elt F)) :
    (bigSep Finset.univ fun n : Fin 4 => iprop(∃ f, slotPts fullShare c n f))
      ⊢ (iprop(∃ f, (((c : Thread nD τ).loc cc0_scratch0) ↦{fullShare} f)) : sProp 𝕄) := by
  haveI : Nonempty ((cc0_scratch0 : Ref sig .tc).ty.Contents (Elt F)) := ⟨f₀⟩
  iintro H
  ihave H' := (BI.bigSep_exists_pi Finset.univ (fun (n : Fin 4) (f : (cc0_scratch0 : Ref sig .tc).ty.Contents (Elt F)) => (slotPts fullShare c n f : sProp 𝕄))) $$ H
  icases H' with ⟨%fs, H⟩
  simp only [slotPts]
  ihave H2 := (show _ ⊢ _ from pointsTo_biUnion_join (ℓ := (c : Thread nD τ).loc cc0_scratch0) (q := fullShare) (Finset.univ : Finset (Fin 4)) slotSet fs (fs 0)
    (fun t _ t' _ h => slotSet_disjoint h)) $$ H
  icases H2 with ⟨%g, -, H⟩
  iexists g
  rw [slotSet_cover]
  iexact H

/-- The share of a slot lent to the transfer to device `d`; half of every share stays for the reads. -/
def lendShare : ℕ → PosShare TreeShare
  | 1 => fullShare.right.left
  | 2 => fullShare.right.right.left
  | _ => fullShare.right.right.right

omit [FloatOps F] [Named F] in
theorem slot_lend (c : Dev nD) (n : Fin 4) (f : (cc0_scratch0 : Ref sig .tc).ty.Contents (Elt F)) :
    (slotPts fullShare c n f : sProp 𝕄) ⊣⊢ iprop(slotPts fullShare.left c n f ∗ slotPts (lendShare 1) c n f ∗ slotPts (lendShare 2) c n f ∗ slotPts (lendShare 3) c n f) := by
  unfold slotPts
  have h1 := pointsTo_share (U := UU) (Ix := Unit) (Name := ℕ) (Lvl := ℕ) (ℓ := (c : Thread nD τ).loc cc0_scratch0) (I := slotSet n) (f := f) (PosShare.mem_left_op_right fullShare)
  have h2 := pointsTo_share (U := UU) (Ix := Unit) (Name := ℕ) (Lvl := ℕ) (ℓ := (c : Thread nD τ).loc cc0_scratch0) (I := slotSet n) (f := f) (PosShare.mem_left_op_right fullShare.right)
  have h3 := pointsTo_share (U := UU) (Ix := Unit) (Name := ℕ) (Lvl := ℕ) (ℓ := (c : Thread nD τ).loc cc0_scratch0) (I := slotSet n) (f := f) (PosShare.mem_left_op_right fullShare.right.right)
  exact ⟨h1.1.trans (sep_mono_right (h2.1.trans (sep_mono_right h3.1))), (sep_mono_right ((sep_mono_right h3.2).trans h2.2)).trans h1.2⟩

/-! ## The schedule -/

/-- The transfer's destination as the kernel names it: slot `n` squeezed. -/
abbrev slotRect (n : Fin 4) : Rect S4x2x2x128x256 :=
  Rect.unit (s := S4x2x2x128x256) ![n.val, 0, 0, 0, 0] S1x2x2x128x256.size (by revert n; decide)
abbrev slotM (n : Fin 4) : Memref sig .tc .vmem S2x2x128x256 .bf16 :=
  (kvM.slice (slotRect n) (fun _ => rfl)).squeeze S2x2x128x256 squeezes_S1x2x2x128x256_S2x2x128x256

/-- The units one slot's transfer raises a counter by. -/
abbrev N : ℕ := (slotM 0).view.dmaCredit
theorem N_pos : 0 < N := View.dmaCredit_pos _ (by decide)

/-- The devices with a duty on a counter of device `o`. -/
def dset (o : Dev nD) : SemLoc sig → Finset (Fin 4)
  | .reg s => if s = barS then Finset.univ.erase o else Finset.univ.filter fun d => d.val = s.val ∧ o < d
  | .dma q => Finset.univ.filter fun d => (q.val = 5 + d.val ∧ d < o) ∨ (d = o ∧ o.val + 1 < q.val ∧ q.val < 5)

def pay (o : Dev nD) (sm : SemLoc sig) (d : Fin 4) : sProp 𝕄 :=
  match sm with
  | .reg s => if s = barS then iprop(emp) else iprop(∃ f, slotPts fullShare d o f)
  | .dma q => if q.val < 5 then slotPts (lendShare (q.val - 1)) o o (KV m) else slotPts fullShare o d (KV m)

def meshRd : Rounds.Schedule (GSem nD τ sig) (Fin 4) 𝕄 where
  duties g r := if r = 0 ∧ g.1.2 = .tc then dset g.1.1 g.2 else ∅
  unitless _ := False
  amount g _ _ := match g.2 with
    | .reg _ => 1
    | .dma _ => N
  payload g _ d := pay m g.1.1 g.2 d
  amount_pos g _ _ _ := by
    rcases g with ⟨t, _ | _⟩
    · exact Nat.one_pos
    · exact N_pos

instance meshRd_payload_storable (g : GSem nD τ sig) (r : ℕ) (d : Fin 4) :
    BI.Storable (upEmb : UEmb _ 𝕄) ((meshRd (F := F) m).payload g r d) := by
  show BI.Storable upEmb (pay m g.1.1 g.2 d)
  unfold pay
  (repeat' split) <;> infer_instance

section Tables
variable (c d : Dev nD)

theorem duties_eq (sm : SemLoc sig) : (meshRd (F := F) m).duties ((c : Thread nD τ), sm) 0 = dset c sm := by
  dsimp only [meshRd]; exact if_pos ⟨rfl, rfl⟩
theorem duties_later (g : GSem nD τ sig) : ∀ r, 1 ≤ r → (meshRd (F := F) m).duties g r = ∅ :=
  fun r hr => by dsimp only [meshRd]; rw [if_neg fun h => by omega]

theorem bar_mem : ∀ c d : Dev nD, c ≠ d → d ∈ dset c (.reg barS) := by decide
theorem crd_dset : ∀ o i : Dev nD, o < i → dset o (.reg (crdS i)) = {i} := by decide
theorem snd_dset : ∀ c d : Dev nD, c < d → dset c (.dma (sndS d)) = {c} := by decide
theorem rcv_dset : ∀ c s : Dev nD, s < c → dset c (.dma (rcvS s)) = {s} := by decide

theorem expect_bar : (meshRd (F := F) m).expect (barCell c) 0 = 3 := by
  unfold Schedule.expect Schedule.amountOf
  rw [duties_eq]
  show ∑ _ ∈ dset c (.reg barS), 1 = 3
  revert c; decide
theorem expect_crd (h : c < d) : (meshRd (F := F) m).expect (crdCell c d) 0 = 1 := by
  unfold Schedule.expect Schedule.amountOf
  rw [duties_eq, crd_dset c d h, Finset.sum_singleton]; rfl
theorem expect_snd (h : c < d) : (meshRd (F := F) m).expect (sndCell c d) 0 = N := by
  unfold Schedule.expect Schedule.amountOf
  rw [duties_eq, snd_dset c d h, Finset.sum_singleton]; rfl
theorem expect_rcv (h : d < c) : (meshRd (F := F) m).expect (rcvCell c d) 0 = N := by
  unfold Schedule.expect Schedule.amountOf
  rw [duties_eq, rcv_dset c d h, Finset.sum_singleton]; rfl

theorem pay_bar (i : Fin 4) : pay (F := F) m c (.reg barS) i = iprop(emp) := rfl
theorem crdS_ne : ∀ i : Fin 4, crdS i ≠ barS := by decide
theorem pay_crd (i j : Fin 4) : pay (F := F) m c (.reg (crdS i)) j = iprop(∃ f, slotPts fullShare j c f) := if_neg (crdS_ne i)
theorem pay_snd (j : Fin 4) : pay (F := F) m c (.dma (sndS d)) j = slotPts (lendShare d.val) c c (KV m) := by
  show (if (sndS d).val < 5 then slotPts (lendShare ((sndS d).val - 1)) c c (KV m) else _) = _
  rw [if_pos (show (sndS d).val < 5 by have h4 : d.val < 4 := d.isLt; show 1 + d.val < 5; omega), show (sndS d).val - 1 = d.val from Nat.add_sub_cancel_left 1 d.val]
theorem pay_rcv (s j : Fin 4) : pay (F := F) m c (.dma (rcvS s)) j = slotPts fullShare c j (KV m) :=
  if_neg (show ¬ 5 + s.val < 5 by omega)

end Tables

/-! ## What each device owes at launch; the order of the waits -/

/-- Device `c` still has to raise the receive counters of the devices in `R`, the ready counters of those in `C` and
    the barrier counters of those in `B`. -/
def Owed (c : Dev nD) (R C B : Finset (Fin 4)) : CellTallies nD τ sig Unit :=
  (∑ d ∈ R, tallyAt (rcvCell d c) () N) + (∑ o ∈ C, tallyAt (crdCell o c) () 1) + ∑ d ∈ B, tallyAt (barCell d) () 1

def O₀ (c : Dev nD) : CellTallies nD τ sig Unit :=
  Owed c (Finset.univ.filter fun d => c < d) (Finset.univ.filter fun o => o < c) (Finset.univ.erase c)

theorem Owed_bar (c : Dev nD) (R C : Finset (Fin 4)) {B : Finset (Fin 4)} {d : Fin 4} (h : d ∈ B) :
    Owed c R C B = Owed c R C (B.erase d) + tallyAt (barCell d) () 1 := by
  unfold Owed; rw [add_assoc _ (∑ d ∈ B.erase d, _), Finset.sum_erase_add _ _ h]
theorem Owed_crd (c : Dev nD) (R : Finset (Fin 4)) {C : Finset (Fin 4)} (B : Finset (Fin 4)) {o : Fin 4} (h : o ∈ C) :
    Owed c R C B = Owed c R (C.erase o) B + tallyAt (crdCell o c) () 1 := by
  unfold Owed; rw [add_right_comm _ _ (tallyAt (crdCell o c) () 1), add_assoc _ (∑ o ∈ C.erase o, _), Finset.sum_erase_add _ _ h]
theorem Owed_rcv (c : Dev nD) {R : Finset (Fin 4)} (C B : Finset (Fin 4)) {d : Fin 4} (h : d ∈ R) :
    Owed c R C B = Owed c (R.erase d) C B + tallyAt (rcvCell d c) () N := by
  unfold Owed
  rw [add_right_comm _ _ (tallyAt (rcvCell d c) () N), add_right_comm _ _ (tallyAt (rcvCell d c) () N), Finset.sum_erase_add _ _ h]
theorem Owed_empty (c : Dev nD) : Owed c ∅ ∅ ∅ = 0 := by unfold Owed; simp only [Finset.sum_empty, add_zero]

def L (g : GSem nD τ sig) : Finset Unit := if g.1.2 = .tc then {()} else ∅
def lvs : SemLoc sig → ℕ
  | .reg s => if s = barS then 1 else 2
  | .dma q => if 5 ≤ q.val ∧ q.val < 9 then 3 else 0
def lv (g : GSem nD τ sig) (_ : Unit) : ℕ := lvs g.2

theorem L_of_ne (g : GSem nD τ sig) (h : g.1.2 ≠ .tc) : L g = ∅ := if_neg h
theorem L_tc (c : Dev nD) (sm : SemLoc sig) : L ((c : Thread nD τ), sm) = {()} := if_pos rfl

theorem lvs_crd : ∀ i : Fin 4, lvs (.reg (crdS i)) = 2 := by decide
theorem lvs_rcv : ∀ i : Fin 4, lvs (.dma (rcvS i)) = 3 := by decide
theorem lvs_snd : ∀ i : Fin 4, lvs (.dma (sndS i)) = 0 := by decide
theorem lvs_loc : ∀ i : Fin 5, lvs (.dma (locS i)) = 0 := by decide

theorem sum_tally_pos {S : Finset (Fin 4)} {k : Fin 4 → GSem nD τ sig} {n : ℕ} {g : GSem nD τ sig} {u : Unit}
    (h : 0 < (∑ d ∈ S, (tallyAt (k d) () n : CellTallies nD τ sig Unit)) g u) : ∃ d ∈ S, g = k d := by
  rw [Finset.sum_apply, Finsupp.finset_sum_apply] at h
  obtain ⟨d, hd, hp⟩ := Finset.exists_ne_zero_of_sum_ne_zero (Nat.pos_iff_ne_zero.mp h)
  refine ⟨d, hd, ?_⟩
  by_contra hne
  rw [tallyAt_apply, if_neg (fun h' => hne h'.1)] at hp
  exact hp rfl

theorem Owed_pos {c : Dev nD} {R C B : Finset (Fin 4)} {g : GSem nD τ sig} {u : Unit} (h : 0 < Owed c R C B g u) :
    (∃ d ∈ R, g = rcvCell d c) ∨ (∃ o ∈ C, g = crdCell o c) ∨ ∃ d ∈ B, g = barCell d := by
  replace h : 0 < (∑ d ∈ R, (tallyAt (rcvCell d c) () N : CellTallies nD τ sig Unit)) g u
      + (∑ o ∈ C, (tallyAt (crdCell o c) () 1 : CellTallies nD τ sig Unit)) g u
      + (∑ d ∈ B, (tallyAt (barCell d) () 1 : CellTallies nD τ sig Unit)) g u := h
  rcases Nat.lt_or_ge 0 ((∑ d ∈ R, (tallyAt (rcvCell d c) () N : CellTallies nD τ sig Unit)) g u) with h1 | h1
  · exact Or.inl (sum_tally_pos h1)
  rcases Nat.lt_or_ge 0 ((∑ o ∈ C, (tallyAt (crdCell o c) () 1 : CellTallies nD τ sig Unit)) g u) with h2 | h2
  · exact Or.inr (Or.inl (sum_tally_pos h2))
  have h3 : 0 < (∑ d ∈ B, (tallyAt (barCell d) () 1 : CellTallies nD τ sig Unit)) g u := by omega
  exact Or.inr (Or.inr (sum_tally_pos h3))

omit [FloatOps F] [Named F] in
/-- A device may wait on a counter lower in the order than everything it owes. -/
theorem mayWait (c : Dev nD) (sm : SemLoc sig) (R C B : Finset (Fin 4)) (hR : R = ∅ ∨ lvs sm < 3) (hC : C = ∅ ∨ lvs sm < 2) (hB : B = ∅ ∨ lvs sm < 1) :
    (levAts L lv : sProp 𝕄) ⊢ MayWait (c : Thread nD τ) sm () (Owed c R C B) :=
  MayOwe.of_cut (L := L) (lev := lv) (lvs sm) (fun p hp => by rw [Finset.mem_singleton.mp hp, L_tc]; exact Finset.mem_singleton_self _)
    (fun g u hg => by rcases Owed_pos hg with ⟨d, _, rfl⟩ | ⟨d, _, rfl⟩ | ⟨d, _, rfl⟩ <;> exact Finset.mem_singleton_self _)
    (fun p hp => by rw [Finset.mem_singleton.mp hp]; exact le_refl _)
    (fun g u hg => by
      rcases Owed_pos hg with ⟨d, hd, rfl⟩ | ⟨d, hd, rfl⟩ | ⟨d, hd, rfl⟩
      · show lvs sm < lvs (.dma (rcvS c))
        rw [lvs_rcv]; rcases hR with rfl | h
        · simp at hd
        · exact h
      · show lvs sm < lvs (.reg (crdS c))
        rw [lvs_crd]; rcases hC with rfl | h
        · simp at hd
        · exact h
      · show lvs sm < lvs (.reg barS)
        rw [show lvs (.reg barS) = 1 from rfl]; rcases hB with rfl | h
        · simp at hd
        · exact h)

end Cert.KernelIdealProof

end
-- ==== Proof.KernelIdealSteps.lean ====
/-
One rule for each operation that a device makes under the protocol: raising a barrier or ready counter, waiting
for one, sending a slot, waiting for a slot to arrive or to have left, and the local copies.
-/
module

public import proofs.«01_k».proof.Proof.KernelIdealProto

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

abbrev 𝒱₀ : Variants := Variants.none

/-! ## The counters of the protocol, and what is known of all of them -/

/-- A device's counters: ready 0–3, send 4–7, receive 8–11, barrier 12. -/
def csem (k : Fin 13) : SemLoc sig :=
  if k.val < 4 then .reg (crdS ⟨k.val % 4, Nat.mod_lt _ (by decide)⟩)
  else if k.val < 8 then .dma (sndS ⟨k.val % 4, Nat.mod_lt _ (by decide)⟩)
  else if k.val < 12 then .dma (rcvS ⟨k.val % 4, Nat.mod_lt _ (by decide)⟩)
  else .reg barS
def kcell (ck : Dev nD × Fin 13) : GSem nD τ sig := ((ck.1 : Thread nD τ), csem ck.2)

def kCrd (i : Fin 4) : Fin 13 := ⟨i.val, by have := i.isLt; omega⟩
def kSnd (i : Fin 4) : Fin 13 := ⟨4 + i.val, by have := i.isLt; omega⟩
def kRcv (i : Fin 4) : Fin 13 := ⟨8 + i.val, by have := i.isLt; omega⟩
def kBar : Fin 13 := 12
theorem csem_crd : ∀ i, csem (kCrd i) = .reg (crdS i) := by decide
theorem csem_snd : ∀ i, csem (kSnd i) = .dma (sndS i) := by decide
theorem csem_rcv : ∀ i, csem (kRcv i) = .dma (rcvS i) := by decide
theorem csem_bar : csem kBar = .reg barS := by decide

/-- Every counter's invariant, and that every counter is in its only round. -/
def records (K : Dev nD × Fin 13 → ℕ) : sProp 𝕄 :=
  iprop((bigSep Finset.univ fun ck : Dev nD × Fin 13 => cellInv ER (meshRd m) (K ck) (kcell ck))
    ∗ bigSep Finset.univ fun ck : Dev nD × Fin 13 => reached ER (kcell ck) 0)

instance records_persistent (K : Dev nD × Fin 13 → ℕ) : BI.Persistent (records m K) := by unfold records; infer_instance

theorem records_at (K : Dev nD × Fin 13 → ℕ) (c : Dev nD) (k : Fin 13) {sm : SemLoc sig} (h : csem k = sm) :
    records m K ⊢ iprop(cellInv ER (meshRd m) (K (c, k)) ((c : Thread nD τ), sm) ∗ reached ER ((c : Thread nD τ), sm) 0) := by
  subst h
  exact BIClass.sep_mono
    (show (bigSep Finset.univ fun ck : Dev nD × Fin 13 => (cellInv ER (meshRd m) (K ck) (kcell ck) : sProp 𝕄)) ⊢ _ from bigSep_elim (Finset.mem_univ (c, k)))
    (show (bigSep Finset.univ fun ck : Dev nD × Fin 13 => (reached ER (kcell ck) 0 : sProp 𝕄)) ⊢ _ from bigSep_elim (Finset.mem_univ (c, k)))

/-- Counter `g` has no duty left. -/
def doneAt (g : GSem nD τ sig) : sProp 𝕄 :=
  iprop(∃ R : ℕ, ⌜∀ r, R ≤ r → (meshRd (F := F) m).duties g r = ∅⌝ ∗ atPos ER g R ∅ 0)

/-- What the device owes, whatever it waited for before. -/
def owing (c : Dev nD) (O : CellTallies nD τ sig Unit) : sProp 𝕄 := iprop(∃ W : Waits sig Unit, owes (c : Thread nD τ) O W)

theorem doneAt_one (g : GSem nD τ sig) : (atPos ER g (0 + 1) ∅ 0 : sProp 𝕄) ⊢ doneAt m g := by
  unfold doneAt
  iintro H
  iexists 0 + 1
  isplitr; · ipureintro; exact duties_later m g
  iexact H

/-- A counter nobody raises has no duty from the start. -/
theorem doneAt_zero (c : Dev nD) (sm : SemLoc sig) (h : dset c sm = ∅) : (atPos ER ((c : Thread nD τ), sm) 0 ∅ 0 : sProp 𝕄) ⊢ doneAt m ((c : Thread nD τ), sm) := by
  unfold doneAt
  iintro H
  iexists 0
  isplitr
  · ipureintro
    intro r hr
    rcases Nat.eq_zero_or_pos r with rfl | hp
    · rw [duties_eq, h]
    · exact duties_later m _ r hp
  iexact H

theorem cell_zero (K : Dev nD × Fin 13 → ℕ) (c : Dev nD) (k : Fin 13) {sm : SemLoc sig} (h : csem k = sm) :
    iprop(records m K ∗ doneAt m ((c : Thread nD τ), sm)) ⊢ |={Set.univ}=> semVal ((c : Thread nD τ), sm) 0 := by
  unfold doneAt
  iintro ⟨Hr, ⟨%R, %hR, Hat⟩⟩
  ihave H := (records_at m K c k h) $$ Hr
  icases H with ⟨HI, -⟩
  iapply (Rounds.cell_close ER (meshRd m) (Set.mem_univ (K (c, k))) (fun h => h) (R := R) hR) $$ [HI Hat]
  isplitl [HI] <;> iassumption

section Steps

variable (K : Dev nD × Fin 13 → ℕ) {α : Type}

/-- Raising device `d`'s barrier counter. -/
theorem wp_barSig {Q : α → sProp 𝕄} {k : PUnit → Prog (TpuEff nD τ sig (Elt F) Λ₀ .tc) α} (c d n : Dev nD) (hn : n = d) (hd : d ≠ c) (s : Sem sig) (hs : s = barS) (R C B : Finset (Fin 4)) (hB : d ∈ B) :
    iprop(records m K ∗ owing c (Owed c R C B) ∗ dutyTok ER (barCell d) 0 c)
      ⊢ iprop((owing c (Owed c R C (B.erase d)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s ((1 : ℕ) : ℤ)) k) Q) := by
  subst hn hs
  unfold owing
  iintro ⟨Hr, ⟨%W, HO⟩, Ht⟩ Hk
  ihave H := (records_at m K n kBar csem_bar) $$ Hr
  icases H with ⟨HI, HR⟩
  have hdu : c ∈ (meshRd (F := F) m).duties (barCell n) 0 := by rw [duties_eq]; exact bar_mem n c hd
  iapply (Rounds.wp_signal 𝒱₀ ER (meshRd m) (c : Thread nD τ) none (Q := Q) (k := k) (dst := (n : Thread nD τ)) (κ := K (n, kBar)) (d := c)
    hdu rfl () (Owed c R C (B.erase n)) (Owed_bar c R C hB)) $$ [HI HO Ht HR]
  · isplitl [HI]; · iexact HI
    isplitl [HO]; · iexact HO
    isplitl [Ht]; · iexact Ht
    isplitr; · iapply (show (iprop(emp) : sProp 𝕄) ⊢ (meshRd m).payload (barCell n) 0 c from BI.Entails.refl _); iempintro
    iexact HR
  iintro HO
  iapply Hk
  iexists W
  iexact HO

/-- Telling device `o` that slot `o` of this device's buffer may be written. -/
theorem wp_crdSig {Q : α → sProp 𝕄} {k : PUnit → Prog (TpuEff nD τ sig (Elt F) Λ₀ .tc) α} (c o n : Dev nD) (hn : n = o) (hd : o < c) (s : Sem sig) (hs : s = crdS c) (R C : Finset (Fin 4)) (hC : o ∈ C) :
    iprop(records m K ∗ owing c (Owed c R C ∅) ∗ dutyTok ER (crdCell o c) 0 c ∗ ∃ f, slotPts fullShare c o f)
      ⊢ iprop((owing c (Owed c R (C.erase o) ∅) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) s ((1 : ℕ) : ℤ)) k) Q) := by
  subst hn hs
  unfold owing
  iintro ⟨Hr, ⟨%W, HO⟩, Ht, Hs⟩ Hk
  ihave H := (records_at m K n (kCrd c) (csem_crd c)) $$ Hr
  icases H with ⟨HI, HR⟩
  iapply (Rounds.wp_signal 𝒱₀ ER (meshRd m) (c : Thread nD τ) none (Q := Q) (k := k) (dst := (n : Thread nD τ)) (κ := K (n, kCrd c)) (d := c)
    (by rw [duties_eq, crd_dset n c hd]; exact Finset.mem_singleton_self _) rfl () (Owed c R (C.erase n) ∅) (Owed_crd c R ∅ hC)) $$ [HI HO Ht Hs HR]
  · isplitl [HI]; · iexact HI
    isplitl [HO]; · iexact HO
    isplitl [Ht]; · iexact Ht
    isplitl [Hs]; · iapply (show iprop(∃ f, slotPts fullShare c n f) ⊢ (meshRd m).payload (crdCell n c) 0 c from Entails.of_eq (pay_crd m n c c).symm); iexact Hs
    iexact HR
  iintro HO
  iapply Hk
  iexists W
  iexact HO

/-- Waiting for the other three devices at the barrier. -/
theorem wp_barWait {Q : α → sProp 𝕄} {k : PUnit → Prog (TpuEff nD τ sig (Elt F) Λ₀ .tc) α} (c : Dev nD) (s : Sem sig) (hs : s = barS) (R C : Finset (Fin 4)) :
    iprop(records m K ∗ levAts L lv ∗ owing c (Owed c R C ∅) ∗ cred (tallyAt (barCell c) () 3) ∗ atPos ER (barCell c) 0 ∅ 0)
      ⊢ iprop(((owing c (Owed c R C ∅) ∗ doneAt m (barCell c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s ((3 : ℕ) : ℤ)) k) Q) := by
  subst hs
  unfold owing
  iintro ⟨Hr, Hl, ⟨%W, HO⟩, Hc, Hat⟩ Hk
  ihave H := (records_at m K c kBar csem_bar) $$ Hr
  icases H with ⟨HI, -⟩
  iapply (Rounds.wp_wait_rest_token 𝒱₀ ER (meshRd m) (c : Thread nD τ) none (Q := Q) (k := k) (κ := K (c, kBar))
      (wpE_semWait_eq 𝒱₀ (c : Thread nD τ) none Set.univ) (Set.mem_univ _) () (O := Owed c R C ∅) (W := W) (R := 0) (m := 0) (T := ∅)
      (by rw [expect_bar])) $$ [HI Hl HO Hc Hat]
  · isplitl [HI]; · iexact HI
    isplitl [Hc]; · iexact Hc
    isplitl [HO]; · iexact HO
    isplitl [Hl]; · iapply (mayWait c (.reg barS) R C ∅ (Or.inr (by decide)) (Or.inr (by decide)) (Or.inl rfl)); iexact Hl
    iexact Hat
  iintro ⟨HO, Hat, -, -⟩
  iapply Hk
  isplitl [HO]; · iexists _; iexact HO
  iapply (doneAt_one m (barCell c)); iexact Hat

/-- Waiting for device `d` to be ready: its slot `c` may be written. -/
theorem wp_crdWait {Q : α → sProp 𝕄} {k : PUnit → Prog (TpuEff nD τ sig (Elt F) Λ₀ .tc) α} (c d : Dev nD) (hd : c < d) (s : Sem sig) (hs : s = crdS d) (R : Finset (Fin 4)) :
    iprop(records m K ∗ levAts L lv ∗ owing c (Owed c R ∅ ∅) ∗ cred (tallyAt (crdCell c d) () 1) ∗ atPos ER (crdCell c d) 0 ∅ 0)
      ⊢ iprop(((owing c (Owed c R ∅ ∅) ∗ doneAt m (crdCell c d) ∗ ∃ f, slotPts fullShare d c f) -∗ wp frame (wpE (defs₀ (F := F)) 𝒱₀ (c : Thread nD τ) none) Set.univ (k ⟨⟩) Q)
          -∗ wp frame (wpE (defs₀ (F := F)) 𝒱₀ (c : Thread nD τ) none) Set.univ (.op (.semWait s ((1 : ℕ) : ℤ)) k) Q) := by
  subst hs
  unfold owing
  iintro ⟨Hr, Hl, ⟨%W, HO⟩, Hc, Hat⟩ Hk
  ihave H := (records_at m K c (kCrd d) (csem_crd d)) $$ Hr
  icases H with ⟨HI, -⟩
  iapply (Rounds.wp_wait_rest_token 𝒱₀ ER (meshRd m) (c : Thread nD τ) none (Q := Q) (k := k) (κ := K (c, kCrd d))
      (wpE_semWait_eq 𝒱₀ (c : Thread nD τ) none Set.univ) (Set.mem_univ _) () (O := Owed c R ∅ ∅) (W := W) (R := 0) (m := 0) (T := ∅)
      (by rw [expect_crd m c d hd])) $$ [HI Hl HO Hc Hat]
  · isplitl [HI]; · iexact HI
    isplitl [Hc]; · iexact Hc
    isplitl [HO]; · iexact HO
    isplitl [Hl]; · iapply (mayWait c (.reg (crdS d)) R ∅ ∅ (Or.inr (by rw [lvs_crd]; decide)) (Or.inl rfl) (Or.inl rfl)); iexact Hl
    iexact Hat
  iintro ⟨HO, Hat, -, Hp⟩
  iapply Hk
  isplitl [HO]; · iexists _; iexact HO
  isplitl [Hat]; · iapply (doneAt_one m (crdCell c d)); iexact Hat
  iapply (Entails.of_eq (show (bigSep ((meshRd m).duties (crdCell c d) 0 \ ∅) (fun e => (meshRd m).payload (crdCell c d) 0 e) : sProp 𝕄) = _ by
    rw [duties_eq, crd_dset c d hd, Finset.sdiff_empty, bigSep_singleton]; exact pay_crd m c d d)) $$ Hp

/-- Waiting for device `s`'s keys and values. -/
theorem wp_rcvWait {Q : α → sProp 𝕄} {k : PUnit → Prog (TpuEff nD τ sig (Elt F) Λ₀ .tc) α} (c s : Dev nD) (hd : s < c) (q : DmaSem sig) (hq : q = rcvS s)
    {sp' : Space} {s' : Shape} {e' : EltTy} {κ' : Kind} {sp'' : Space} {s'' : Shape} {e'' : EltTy} {srcw : Memref sig .tc sp' s' e'} {dstw : Memref sig κ' sp'' s'' e''}
    {hsrc : srcw.view.WordExact} {hdst : dstw.view.WordExact} (hN : dstw.view.dmaCredit = N) :
    iprop(records m K ∗ owing c (Owed c ∅ ∅ ∅) ∗ cred (tallyAt (rcvCell c s) () N) ∗ atPos ER (rcvCell c s) 0 ∅ 0)
      ⊢ iprop(((owing c (Owed c ∅ ∅ ∅) ∗ doneAt m (rcvCell c s) ∗ slotPts fullShare c s (KV m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq
  unfold owing
  iintro ⟨Hr, ⟨%W, HO⟩, Hc, Hat⟩ Hk
  ihave H := (records_at m K c (kRcv s) (csem_rcv s)) $$ Hr
  icases H with ⟨HI, -⟩
  iapply (Rounds.wp_wait_rest_token 𝒱₀ ER (meshRd m) (c : Thread nD τ) none (Q := Q) (k := k) (κ := K (c, kRcv s))
      (wpE_waitDma2_eq 𝒱₀ (c : Thread nD τ) none Set.univ) (Set.mem_univ _) () (O := Owed c ∅ ∅ ∅) (W := W) (R := 0) (m := 0) (T := ∅)
      (by rw [expect_rcv m c s hd, hN, Nat.zero_add])) $$ [HI HO Hc Hat]
  · isplitl [HI]; · iexact HI
    isplitl [Hc]; · rw [hN]; iexact Hc
    isplitl [HO]; · iexact HO
    isplitr; · rw [Owed_empty, MayWait_zero]; iempintro
    iexact Hat
  iintro ⟨HO, Hat, -, Hp⟩
  iapply Hk
  isplitl [HO]; · iexists _; iexact HO
  isplitl [Hat]; · iapply (doneAt_one m (rcvCell c s)); iexact Hat
  iapply (Entails.of_eq (show (bigSep ((meshRd m).duties (rcvCell c s) 0 \ ∅) (fun e => (meshRd m).payload (rcvCell c s) 0 e) : sProp 𝕄) = _ by
    rw [duties_eq, rcv_dset c s hd, Finset.sdiff_empty, bigSep_singleton]; exact pay_rcv m c s s)) $$ Hp

/-- Waiting until the transfer to device `d` has read this device's slot. -/
theorem wp_sndWait {Q : α → sProp 𝕄} {k : PUnit → Prog (TpuEff nD τ sig (Elt F) Λ₀ .tc) α} (c d : Dev nD) (hd : c < d) (q : DmaSem sig) (hq : q = sndS d)
    {sp' : Space} {s' : Shape} {e' : EltTy} {κ' : Kind} {sp'' : Space} {s'' : Shape} {e'' : EltTy} {srcw : Memref sig .tc sp' s' e'} {dstw : Memref sig κ' sp'' s'' e''}
    {hsrc : srcw.view.WordExact} {hdst : dstw.view.WordExact} (hN : dstw.view.dmaCredit = N) :
    iprop(records m K ∗ owing c (Owed c ∅ ∅ ∅) ∗ cred (tallyAt (sndCell c d) () N) ∗ atPos ER (sndCell c d) 0 ∅ 0)
      ⊢ iprop(((owing c (Owed c ∅ ∅ ∅) ∗ doneAt m (sndCell c d) ∗ slotPts (lendShare d.val) c c (KV m)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq
  unfold owing
  iintro ⟨Hr, ⟨%W, HO⟩, Hc, Hat⟩ Hk
  ihave H := (records_at m K c (kSnd d) (csem_snd d)) $$ Hr
  icases H with ⟨HI, -⟩
  iapply (Rounds.wp_wait_rest_token 𝒱₀ ER (meshRd m) (c : Thread nD τ) none (Q := Q) (k := k) (κ := K (c, kSnd d))
      (wpE_waitDma2_eq 𝒱₀ (c : Thread nD τ) none Set.univ) (Set.mem_univ _) () (O := Owed c ∅ ∅ ∅) (W := W) (R := 0) (m := 0) (T := ∅)
      (by rw [expect_snd m c d hd, hN, Nat.zero_add])) $$ [HI HO Hc Hat]
  · isplitl [HI]; · iexact HI
    isplitl [Hc]; · rw [hN]; iexact Hc
    isplitl [HO]; · iexact HO
    isplitr; · rw [Owed_empty, MayWait_zero]; iempintro
    iexact Hat
  iintro ⟨HO, Hat, -, Hp⟩
  iapply Hk
  isplitl [HO]; · iexists _; iexact HO
  isplitl [Hat]; · iapply (doneAt_one m (sndCell c d)); iexact Hat
  iapply (Entails.of_eq (show (bigSep ((meshRd m).duties (sndCell c d) 0 \ ∅) (fun e => (meshRd m).payload (sndCell c d) 0 e) : sProp 𝕄) = _ by
    rw [duties_eq, snd_dset c d hd, Finset.sdiff_empty, bigSep_singleton]; exact pay_snd m c d c)) $$ Hp

omit [FloatOps F] [Named F] in
theorem slotM_set (n : Fin 4) : (slotM n).view.set = slotSet n := by
  show ((kvM.slice (slotRect n) (fun _ => rfl)).view.reshape S2x2x128x256 _).set = _
  rw [View.set_reshape]
  show (kvM.access (slotRect n)).set = _
  rw [View.set_slice_whole]
  ext i
  rw [Rect.mem_set_unit, mem_slotSet]
  constructor
  · intro h; have := h 0; simp at this; omega
  · intro h a
    have h1 : (i 1).val < 2 := (i 1).isLt
    have h2 : (i 2).val < 2 := (i 2).isLt
    have h3 : (i 3).val < 128 := (i 3).isLt
    have h4 : (i 4).val < 256 := (i 4).isLt
    fin_cases a
    · show n.val ≤ (i 0).val ∧ (i 0).val < n.val + 1; omega
    · show 0 ≤ (i 1).val ∧ (i 1).val < 0 + 2; omega
    · show 0 ≤ (i 2).val ∧ (i 2).val < 0 + 2; omega
    · show 0 ≤ (i 3).val ∧ (i 3).val < 0 + 128; omega
    · show 0 ≤ (i 4).val ∧ (i 4).val < 0 + 256; omega

/-- A slot written with what a slot of `g` reads is `g` on that slot. -/
theorem slotM_landed (n : Fin 4) (f g : (cc0_scratch0 : Ref sig .tc).ty.Contents (Elt F)) :
    ∀ i ∈ slotSet n, (slotM n).view.write (Elt F) f ((slotM n).view.read (Elt F) g) Finset.univ i = g i := by
  intro i hi
  rw [← slotM_set] at hi
  obtain ⟨x, -, rfl⟩ := Finset.mem_map.mp hi
  rw [View.write_emb_of_mem _ _ (Finset.mem_univ _)]
  rfl

omit [FloatOps F] [Named F] in
theorem slotM_amount (n : Fin 4) : (slotM n).view.dmaCredit = N := rfl

/-- Sending this device's slot to device `d`. -/
theorem wp_sendSlot {Q : α → sProp 𝕄} {k : PUnit → Prog (TpuEff nD τ sig (Elt F) Λ₀ .tc) α} (c d n : Dev nD) (hn : n = d) (hd : c < d) (R : Finset (Fin 4)) (hR : d ∈ R)
    (src : Memref sig .tc .vmem S2x2x128x256 .bf16) (hs : src = slotM c)
    (dst : Memref sig (n : Thread nD τ).2.kind .vmem S2x2x128x256 .bf16) (hdM : dst = slotM c)
    (sS : DmaSem sig) (hsS : sS = sndS d) (rS : DmaSem sig) (hrS : rS = rcvS c)
    {hsc : dst.view.ref.isScScratch = false} {hsrc : src.view.WordExact} {hdst : dst.view.WordExact}
    {hsem : DmaTarget.Typed .vmem (.dma rS) (.remote (n : Thread nD τ) dst (.dma sS) hsc)} :
    iprop(records m K ∗ owing c (Owed c R ∅ ∅) ∗ dutyTok ER (sndCell c d) 0 c ∗ dutyTok ER (rcvCell d c) 0 c
        ∗ slotPts (lendShare d.val) c c (KV m) ∗ ∃ f, slotPts fullShare d c f)
      ⊢ iprop(((owing c (Owed c (R.erase d) ∅ ∅) ∗ cred (tallyAt (sndCell c d) () N)) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (n : Thread nD τ) dst (.dma sS) hsc) (.dma rS) hsrc hdst hsem) k) Q) := by
  subst hn hs hdM hsS hrS
  unfold owing
  iintro ⟨#Hr, ⟨%W, HO⟩, Ht1, Ht2, Hs, ⟨%f, Hd⟩⟩ Hk
  ihave H := (records_at m K c (kSnd n) (csem_snd n)) $$ Hr
  icases H with ⟨HI1, HR1⟩
  ihave H := (records_at m K n (kRcv c) (csem_rcv c)) $$ Hr
  icases H with ⟨HI2, HR2⟩
  iapply (Rounds.wp_send_pointsTo 𝒱₀ ER (meshRd m) (c : Thread nD τ) none (Q := Q) (k := k) (κ₁ := K (c, kSnd n)) (κ₂ := K (n, kRcv c))
    (c' := (n : Thread nD τ)) (src := slotM c) (dst := slotM c) (sS := .dma (sndS n)) (sem := .dma (rcvS c))
    (r₁ := 0) (r₂ := 0) (d₁ := c) (d₂ := c) (q := lendShare n.val) (fs := KV m) (fd := f)
    (by rw [duties_eq, snd_dset c n hd]; exact Finset.mem_singleton_self _) (by rw [duties_eq, rcv_dset n c hd]; exact Finset.mem_singleton_self _)
    () () N (slotM_amount c) rfl rfl (Owed c (R.erase n) ∅ ∅) (Owed_rcv c ∅ ∅ hR) (W := W)
    (by
      rw [slotM_set]
      exact Entails.of_eq (pay_snd m c n c).symm)
    (by
      rw [slotM_set]
      refine (Entails.of_eq (pointsTo_congr (slotM_landed c f (KV m)))).trans (Entails.of_eq ?_)
      exact (pay_rcv m n c c).symm)) $$ [HI1 HI2 HR1 HR2 HO Ht1 Ht2 Hs Hd]
  · isplitl [HI1]; · iexact HI1
    isplitl [HI2]; · iexact HI2
    isplitl [Hs]; · rw [slotM_set]; unfold slotPts; iexact Hs
    isplitl [Hd]; · rw [slotM_set]; unfold slotPts; iexact Hd
    isplitl [HO]; · iexact HO
    isplitl [Ht1]; · iexact Ht1
    isplitl [HR1]; · iexact HR1
    isplitl [Ht2]; · iexact Ht2
    iexact HR2
  iintro ⟨Hc, HO⟩
  iapply Hk
  isplitl [HO]; · iexists W; iexact HO
  iexact Hc

end Steps

end Cert.KernelIdealProof

end
-- ==== Proof.KernelIdealValue.lean ====
/-
What one device computes: the block-causal attention of its rows over the four slots of its key/value buffer, as a
function of the device's word, its two query blocks, the slots' contents and the output weights.
-/
module

public import proofs.«01_k».proof.Proof.KernelIdealProto

@[expose] public section

noncomputable section

namespace Cert.KernelIdealProof

open Cert.KernelIdeal Cert.KernelIdeal.Gen
open Idealize.ShloMosaic
open Idealize.ShloMosaic.TcCoe

variable {F : FTy → Type} [FloatOps F] [Named F]

/-- The contents of the key/value buffer. -/
abbrev KVBuf (F : FTy → Type) : Type := (cc0_scratch0 : Ref sig .tc).ty.Contents (Elt F)

/-- The rectangle of slot `n` that one head of one batch row reads: keys at `kv = 0`, values at `kv = 1`. -/
abbrev headOff (n : Fin 4) (kv b : Fin 2) (h : Fin 4) : Fin 5 → ℕ := ![n.val, kv.val, b.val, 0, 64 * h.val]
theorem headOff_inb : ∀ (n : Fin 4) (kv b : Fin 2) (h : Fin 4), ∀ a, headOff n kv b h a + S1x1x1x128x64.size a ≤ S4x2x2x128x256.size a := by decide
abbrev headRect (n : Fin 4) (kv b : Fin 2) (h : Fin 4) : Rect S4x2x2x128x256 :=
  Rect.unit (s := S4x2x2x128x256) (headOff n kv b h) S1x1x1x128x64.size (headOff_inb n kv b h)
/-- What one head reads of one slot. -/
def ld (f : KVBuf F) (n : Fin 4) (kv b : Fin 2) (h : Fin 4) : Vec F S1x1x1x128x64 .bf16 :=
  kvM.view.readAt (Elt F) (headRect n kv b h).toLoadRect f

/-- Which keys of device `s` the rows of device word `v2` may see. -/
def maskOf (v2 : BitVec 32) (s : BitVec 32) : IVec S128x128 1 :=
  cmpi .sle (addi (broadcast S128x128 s) k0_pay7) (addi (broadcast S128x128 (Scalar.muli 2#32 v2)) k0_pay6)

theorem headSlices : ∀ h : Fin 4, S128x256.Slices ![0, 64 * h.val] S128x64
  | 0 => slices_S128x256_o0_0_S128x64
  | 1 => slices_S128x256_o0_64_S128x64
  | 2 => slices_S128x256_o0_128_S128x64
  | 3 => slices_S128x256_o0_192_S128x64
/-- One head's queries. -/
def qHead (q : FVec F S128x256 .f32) (h : Fin 4) : FVec F S128x64 .bf16 :=
  truncf .bf16 (extractStridedSlice S128x64 ![0, 64 * h.val] q (headSlices h)) bitsLt_bf16_f32
/-- The unnormalised weights of one head's rows on one slot's keys. -/
def wts (mk : IVec S128x128 1) (qh : FVec F S128x64 .bf16) (k : Vec F S1x1x1x128x64 .bf16) : FVec F S128x128 .f32 :=
  exp (select mk (mulf (matmul dot_S128x64_S128x64_S128x128_1_1_0_0_n_n none qh (shapeCast S128x64 k shapeCasts_S1x1x1x128x64_S128x64) (constant S128x128 .f32 0x00000000#32))
      (broadcast S128x128 (Scalar.ofBits .f32 0x3E000000#32))) (broadcast S128x128 (Named.named κ "mask" 0xCE6E6B28#32)))
/-- One head's values of one slot, or zeros if the slot is not to be seen. -/
def vals (vis : BitVec 1) (v : Vec F S1x1x1x128x64 .bf16) : FVec F S128x64 .bf16 :=
  Scalar.select vis (shapeCast S128x64 v shapeCasts_S1x1x1x128x64_S128x64) (broadcast S128x64 (Scalar.ofBits .bf16 0x0000#16))
/-- The sums of the rows' weights, with those of one more slot. -/
def lNext (l : FVec F S128x1 .f32) (p : FVec F S128x128 .f32) : FVec F S128x1 .f32 :=
  addf l (shapeCast S128x1 (multiReduction .add [1] S128 p 0x00000000#32 reduces_S128x128_S128 (.inl rfl) rfl) shapeCasts_S128_S128x1)
/-- The weighted sums of the values, with those of one more slot. -/
def aNext (a : FVec F S128x64 .f32) (p : FVec F S128x128 .f32) (v : FVec F S128x64 .bf16) : FVec F S128x64 .f32 :=
  addf a (matmul dot_S128x128_S128x64_S128x64_1_0_0_1_n_n none (truncf .bf16 p bitsLt_bf16_f32) v (constant S128x64 .f32 0x00000000#32))

/-- Twice a slot's number, and whether the slot is to be seen, as the kernel computes them. -/
def twice : Fin 4 → BitVec 32 := ![0#32, 2#32, 4#32, 6#32]
def sees (v2 : BitVec 32) (s : Fin 4) : BitVec 1 := Scalar.cmpi .sge v2 (![0#32, 1#32, 2#32, 3#32] s)

section Head
variable (v2 : BitVec 32) (q : FVec F S128x256 .f32) (g : Fin 4 → KVBuf F) (b : Fin 2) (h : Fin 4)

/-- One head's weights on slot `s`; its values there. -/
def headW (s : Fin 4) : FVec F S128x128 .f32 := wts (maskOf v2 (twice s)) (qHead q h) (ld (g s) s 0 b h)
def headV (s : Fin 4) : FVec F S128x64 .bf16 := vals (sees v2 s) (ld (g s) s 1 b h)
def headL : FVec F S128x1 .f32 :=
  lNext (lNext (lNext (lNext (broadcast S128x1 (Scalar.ofBits .f32 0x00000000#32)) (headW v2 q g b h 0)) (headW v2 q g b h 1)) (headW v2 q g b h 2)) (headW v2 q g b h 3)
def headA : FVec F S128x64 .f32 :=
  aNext (aNext (aNext (aNext (broadcast S128x64 (Scalar.ofBits .f32 0x00000000#32)) (headW v2 q g b h 0) (headV v2 g b h 0))
    (headW v2 q g b h 1) (headV v2 g b h 1)) (headW v2 q g b h 2) (headV v2 g b h 2)) (headW v2 q g b h 3) (headV v2 g b h 3)
/-- One head's result. -/
def headO : FVec F S128x64 .f32 := divf (headA v2 q g b h) (broadcastTo S128x64 (headL v2 q g b h) broadcasts_S128x1_S128x64)
end Head

/-- One batch row's result: its four heads side by side, times the output weights. -/
def rowO (v2 : BitVec 32) (q : FVec F S128x256 .f32) (g : Fin 4 → KVBuf F) (b : Fin 2) (wo : Vec F S256x512 .f32) : FVec F S1x128x512 .f32 :=
  shapeCast S1x128x512 (matmul dot_S128x256_S256x512_S128x512_1_0_0_1_n_n none
    (truncf .bf16 (concatenate S128x256 1 [⟨S128x64, headO v2 q g b 0⟩, ⟨S128x64, headO v2 q g b 1⟩, ⟨S128x64, headO v2 q g b 2⟩, ⟨S128x64, headO v2 q g b 3⟩]
      concatenates_S128x64_S128x64_S128x64_S128x64_S128x256_d1) bitsLt_bf16_f32)
    (truncf .bf16 wo bitsLt_bf16_f32) (constant S128x512 .f32 0x00000000#32)) shapeCasts_S128x512_S1x128x512

/-! ## Slots that are not to be seen do not matter -/

/-- A row's or a column's block number: the kernel's division by 64 on words. -/
def blockW (x : BitVec 32) : BitVec 32 :=
  Scalar.select (IntOp.andi (IntOp.cmpi .ne (IntOp.subi (BitVec.setWidth 32 (IntOp.cmpi .sgt x 0#32)) (BitVec.setWidth 32 (IntOp.cmpi .slt x 0#32)))
      (Scalar.subi (Scalar.extui (Scalar.cmpi .sgt 64#32 0#32)) (Scalar.extui (Scalar.cmpi .slt 64#32 0#32))))
    (IntOp.cmpi .ne (IntOp.remsi .vector x 64#32) 0#32))
    (IntOp.subi (IntOp.divsi .vector x 64#32) 1#32) (IntOp.divsi .vector x 64#32)

theorem pay6_at (i : S128x128.Idx) : k0_pay6 i = blockW (BitVec.ofNat 32 (i 0).val) :=
  (show k0_pay6 i = blockW (iota .tc S128x128 32 [0] iota_S128x128_d0_w32 i) from rfl).trans
    (congrArg (fun n => blockW (BitVec.ofNat 32 n)) (show 0 * 128 + (i 0).val = (i 0).val from by omega))
theorem pay7_at (i : S128x128.Idx) : k0_pay7 i = blockW (BitVec.ofNat 32 (i 1).val) :=
  (show k0_pay7 i = blockW (iota .tc S128x128 32 [1] iota_S128x128_d1_w32 i) from rfl).trans
    (congrArg (fun n => blockW (BitVec.ofNat 32 n)) (show 0 * 128 + (i 1).val = (i 1).val from by omega))

theorem blockW_eq : ∀ n : Fin 128, blockW (BitVec.ofNat 32 n.val) = BitVec.ofNat 32 (n.val / 64) := by decide +kernel

/-- The mask, on numbers: key column `i 1` of device `s` lies in a block not after row `i 0` of device `c`. -/
theorem maskOf_at (c s : Fin 4) (i : S128x128.Idx) :
    maskOf (BitVec.ofNat 32 c.val) (twice s) i = if 2 * s.val + (i 1).val / 64 ≤ 2 * c.val + (i 0).val / 64 then 1#1 else 0#1 := by
  show IntOp.cmpi .sle (IntOp.addi (twice s) (k0_pay7 i)) (IntOp.addi (Scalar.muli 2#32 (BitVec.ofNat 32 c.val)) (k0_pay6 i)) = _
  have h0 : (i 0).val < 128 := (i 0).isLt
  have h1 : (i 1).val < 128 := (i 1).isLt
  rw [pay6_at, pay7_at, blockW_eq ⟨_, h0⟩, blockW_eq ⟨_, h1⟩]
  have a : (i 0).val / 64 < 2 := by omega
  have b : (i 1).val / 64 < 2 := by omega
  show IntOp.cmpi .sle (IntOp.addi (twice s) (BitVec.ofNat 32 ((i 1).val / 64))) (IntOp.addi (Scalar.muli 2#32 (BitVec.ofNat 32 c.val)) (BitVec.ofNat 32 ((i 0).val / 64))) = _
  generalize (i 0).val / 64 = x at a ⊢
  generalize (i 1).val / 64 = y at b ⊢
  revert c s
  obtain rfl | rfl : x = 0 ∨ x = 1 := by omega
  all_goals obtain rfl | rfl : y = 0 ∨ y = 1 := by omega
  all_goals decide

theorem sees_eq : ∀ c s : Fin 4, sees (BitVec.ofNat 32 c.val) s = if s ≤ c then 1#1 else 0#1 := by decide

theorem mask_hidden {c s : Fin 4} (h : c < s) (i : S128x128.Idx) : maskOf (BitVec.ofNat 32 c.val) (twice s) i = 0#1 := by
  rw [maskOf_at, if_neg]
  have h0 : (i 0).val < 128 := (i 0).isLt
  have h' : c.val < s.val := h
  omega

/-- On a slot that is not to be seen, the weights do not depend on the keys. -/
theorem headW_hidden {c s : Fin 4} (h : c < s) (q : FVec F S128x256 .f32) (g g' : Fin 4 → KVBuf F) (b : Fin 2) (hd : Fin 4) :
    headW (BitVec.ofNat 32 c.val) q g b hd s = headW (BitVec.ofNat 32 c.val) q g' b hd s := by
  unfold headW wts
  congr 1
  funext i
  show Scalar.select (maskOf _ _ i) _ _ = Scalar.select (maskOf _ _ i) _ _
  rw [mask_hidden h]; rfl

theorem headV_hidden {c s : Fin 4} (h : c < s) (g g' : Fin 4 → KVBuf F) (b : Fin 2) (hd : Fin 4) :
    headV (BitVec.ofNat 32 c.val) g b hd s = headV (BitVec.ofNat 32 c.val) g' b hd s := by
  unfold headV vals
  rw [sees_eq, if_neg (not_le.mpr h)]; rfl

theorem headW_congr (c : Fin 4) (q : FVec F S128x256 .f32) {g g' : Fin 4 → KVBuf F} (hg : ∀ s, s ≤ c → g s = g' s) (b : Fin 2) (hd s : Fin 4) :
    headW (BitVec.ofNat 32 c.val) q g b hd s = headW (BitVec.ofNat 32 c.val) q g' b hd s := by
  rcases le_or_gt s c with h | h
  · unfold headW; rw [hg s h]
  · exact headW_hidden h q g g' b hd
theorem headV_congr (c : Fin 4) {g g' : Fin 4 → KVBuf F} (hg : ∀ s, s ≤ c → g s = g' s) (b : Fin 2) (hd s : Fin 4) :
    headV (BitVec.ofNat 32 c.val) g b hd s = headV (BitVec.ofNat 32 c.val) g' b hd s := by
  rcases le_or_gt s c with h | h
  · unfold headV; rw [hg s h]
  · exact headV_hidden h g g' b hd

/-- A row's result depends on the slots up to the device's own only. -/
theorem rowO_congr (c : Fin 4) (q : FVec F S128x256 .f32) {g g' : Fin 4 → KVBuf F} (hg : ∀ s, s ≤ c → g s = g' s) (b : Fin 2) (wo : Vec F S256x512 .f32) :
    rowO (BitVec.ofNat 32 c.val) q g b wo = rowO (BitVec.ofNat 32 c.val) q g' b wo := by
  have : ∀ hd, headO (BitVec.ofNat 32 c.val) q g b hd = headO (BitVec.ofNat 32 c.val) q g' b hd := fun hd => by
    unfold headO headA headL; simp only [headW_congr c q hg, headV_congr c hg]
  unfold rowO; rw [this 0, this 1, this 2, this 3]

end Cert.KernelIdealProof

end
-- ==== Proof.KernelIdealLocal.lean ====
/-
The rules for what a device does on its own memory: one head's read of a slot, the wait for a slot if one is to come,
and the copies of the arguments into vector memory.
-/
module

public import proofs.«01_k».proof.Proof.KernelIdealSteps
public import proofs.«01_k».proof.Proof.KernelIdealValue

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem head_sub (n : Fin 4) {off : Fin 5 → ℕ} {inb : ∀ a, off a + S1x1x1x128x64.size a ≤ S4x2x2x128x256.size a} (ho : off 0 = n.val) :
    kvM.view.setOn (Rect.unit (s := S4x2x2x128x256) off S1x1x1x128x64.size inb).toLoadRect.set ⊆ slotSet n := by
  intro i hi
  have hi' : i ∈ (kvM.access (Rect.unit (s := S4x2x2x128x256) off S1x1x1x128x64.size inb)).set := by rw [View.set_slice]; exact hi
  rw [View.set_slice_whole, Rect.mem_set_unit] at hi'
  have h : off 0 ≤ (i 0).val ∧ (i 0).val < off 0 + 1 := hi' 0
  rw [mem_slotSet]; omega

/-- One head's read of one slot. -/
theorem wp_loadHead (c : Dev nD) (n : Fin 4) {q : PosShare TreeShare} {f : KVBuf F} {α : Type} {Q : α → sProp 𝕄}
    {off : Fin 5 → ℕ} {inb : ∀ a, off a + S1x1x1x128x64.size a ≤ S4x2x2x128x256.size a} (ho : off 0 = n.val)
    {hl : kvM.view.LoadsAt (Rect.unit (s := S4x2x2x128x256) off S1x1x1x128x64.size inb).toLoadRect}
    {k : (S1x1x1x128x64.Idx → Elt F .bf16) → Prog (TpuEff nD τ sig (Elt F) Λ₀ .tc) α} :
    (slotPts q c n f : sProp 𝕄)
      ⊢ iprop((slotPts q c n f -∗ wp frame (wpE (defs₀ (F := F)) 𝒱₀ (c : Thread nD τ) none) Set.univ
            (k (kvM.view.readAt (Elt F) (Rect.unit (s := S4x2x2x128x256) off S1x1x1x128x64.size inb).toLoadRect f)) Q)
        -∗ wp frame (wpE (defs₀ (F := F)) 𝒱₀ (c : Thread nD τ) none) Set.univ
          (.op (.load kvM (Rect.unit (s := S4x2x2x128x256) off S1x1x1x128x64.size inb).toLoadRect hl) k) Q) := by
  unfold slotPts
  exact wp_load 𝒱₀ (c : Thread nD τ) none Set.univ (m := kvM) (head_sub n ho)

/-- The share at which a device holds slot `s` while it reads: half of its own slot, the rest of which is lent. -/
def readShare (c s : Dev nD) : PosShare TreeShare := if s = c then fullShare.left else fullShare

/-- Slot `s` as device `c` reads it: the keys and values if it is to be seen, anything if not. -/
def seen (g : KVBuf F) (c s : Dev nD) : KVBuf F := if s ≤ c then KV m else g
def held (g : KVBuf F) (c s : Dev nD) : sProp 𝕄 := slotPts (readShare c s) c s (seen m g c s)

/-- One head's read of a slot as it is held. -/
theorem wp_heldHead (g : KVBuf F) (c n : Fin 4) {α : Type} {Q : α → sProp 𝕄}
    {off : Fin 5 → ℕ} {inb : ∀ a, off a + S1x1x1x128x64.size a ≤ S4x2x2x128x256.size a} (ho : off 0 = n.val)
    {hl : kvM.view.LoadsAt (Rect.unit (s := S4x2x2x128x256) off S1x1x1x128x64.size inb).toLoadRect}
    {k : (S1x1x1x128x64.Idx → Elt F .bf16) → Prog (TpuEff nD τ sig (Elt F) Λ₀ .tc) α} :
    held m g c n
      ⊢ iprop((held m g c n -∗ wp frame (wpE (defs₀ (F := F)) 𝒱₀ (c : Thread nD τ) none) Set.univ
            (k (kvM.view.readAt (Elt F) (Rect.unit (s := S4x2x2x128x256) off S1x1x1x128x64.size inb).toLoadRect (seen m g c n))) Q)
        -∗ wp frame (wpE (defs₀ (F := F)) 𝒱₀ (c : Thread nD τ) none) Set.univ
          (.op (.load kvM (Rect.unit (s := S4x2x2x128x256) off S1x1x1x128x64.size inb).toLoadRect hl) k) Q) := by
  unfold held; exact wp_loadHead c n ho

/-- Before the wait for slot `s`: its counter, if it is to come, and otherwise the slot. -/
def awaited (g : KVBuf F) (c s : Dev nD) : sProp 𝕄 :=
  if s < c then iprop(cred (tallyAt (rcvCell c s) () N) ∗ atPos ER (rcvCell c s) 0 ∅ 0) else iprop(doneAt m (rcvCell c s) ∗ held m g c s)

/-- The wait for slot `s`, which is made if the slot is to come. -/
theorem wp_recvIf (K : Dev nD × Fin 13 → ℕ) (g : KVBuf F) (c s : Dev nD) {α : Type} {Q : α → sProp 𝕄} {k : PUnit → Prog (TpuEff nD τ sig (Elt F) Λ₀ .tc) α}
    {P : Prop} [Decidable P] (hP : Iff P (s < c)) (q : DmaSem sig) (hq : q = rcvS s)
    {sp' : Space} {s' : Shape} {e' : EltTy} {κ' : Kind} {sp'' : Space} {s'' : Shape} {e'' : EltTy} {srcw : Memref sig .tc sp' s' e'} {dstw : Memref sig κ' sp'' s'' e''}
    {hsrc : srcw.view.WordExact} {hdst : dstw.view.WordExact}
    {t : P → Prog (TpuEff nD τ sig (Elt F) Λ₀ .tc) α} {e : ¬P → Prog (TpuEff nD τ sig (Elt F) Λ₀ .tc) α}
    (ht : ∀ h, t h = .op (.waitDma2 q srcw dstw hsrc hdst) k) (he : ∀ h, e h = k ⟨⟩) (hN : dstw.view.dmaCredit = N) :
    iprop(records m K ∗ owing c (Owed c ∅ ∅ ∅) ∗ awaited m g c s)
      ⊢ iprop(((owing c (Owed c ∅ ∅ ∅) ∗ doneAt m (rcvCell c s) ∗ held m g c s) -∗ wp frame (wpE (defs₀ (F := F)) 𝒱₀ (c : Thread nD τ) none) Set.univ (k ⟨⟩) Q)
          -∗ wp frame (wpE (defs₀ (F := F)) 𝒱₀ (c : Thread nD τ) none) Set.univ (dite P t e) Q) := by
  by_cases h : s < c
  · rw [dif_pos (hP.mpr h), ht]
    unfold awaited held readShare seen
    rw [if_pos h, if_neg (ne_of_lt h), if_pos (le_of_lt h)]
    exact wp_rcvWait m K c s h q hq hN
  · rw [dif_neg (fun h' => h (hP.mp h')), he]
    unfold awaited
    rw [if_neg h]
    iintro ⟨-, HO, Hd⟩ Hk
    iapply Hk
    isplitl [HO] <;> iassumption

/-- Word `c` as the kernel computes it from the device's number. -/
theorem devWord : ∀ c : Dev nD, Scalar.remsi (Scalar.divsi (Dev.word c) 1#32) 4#32 = BitVec.ofNat 32 c.val := by decide

/-- Taking the copy of an argument that a device waits for. -/
theorem wp_locWait (c : Dev nD) (j : Fin 5) (R C : Finset (Fin 4)) {α : Type} {Q : α → sProp 𝕄} {k : PUnit → Prog (TpuEff nD τ sig (Elt F) Λ₀ .tc) α}
    (q : DmaSem sig) (hq : q = locS j) (n : ℕ) (D : sProp 𝕄)
    {sp' : Space} {s' : Shape} {e' : EltTy} {κ' : Kind} {sp'' : Space} {s'' : Shape} {e'' : EltTy} {srcw : Memref sig .tc sp' s' e'} {dstw : Memref sig κ' sp'' s'' e''}
    {hsrc : srcw.view.WordExact} {hdst : dstw.view.WordExact} (hN : dstw.view.dmaCredit = n) :
    iprop(levAts L lv ∗ owing c (Owed c R C ∅) ∗ Transfers.Flight EC (c : Thread nD τ) (.dma (locS j)) () n D)
      ⊢ iprop(((owing c (Owed c R C ∅) ∗ semVal (locCell c j) 0 ∗ D) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q srcw dstw hsrc hdst) k) Q) := by
  subst hq
  unfold owing
  iintro ⟨Hl, ⟨%W, HO⟩, Hf⟩ Hk
  iapply (Transfers.wp_waitLocalO EC 𝒱₀ (c : Thread nD τ) none (Q := Q) (k := k) () hN) $$ [Hl HO Hf]
  · isplitl [Hf]; · iexact Hf
    isplitl [HO]; · iexact HO
    iapply (mayWait c (.dma (locS j)) R C ∅ (Or.inr (by rw [lvs_loc]; decide)) (Or.inr (by rw [lvs_loc]; decide)) (Or.inl rfl)); iexact Hl
  iintro ⟨HD, Hv, HO⟩
  iapply Hk
  isplitl [HO]; · iexists _; iexact HO
  isplitl [Hv] <;> iassumption

/-- Starting the copy of one whole buffer into another. -/
theorem wp_locCopy (c : Dev nD) (j : Fin 5) {sp' sp'' : Space} {s : Shape} {e : EltTy} {α : Type} {Q : α → sProp 𝕄} {k : PUnit → Prog (TpuEff nD τ sig (Elt F) Λ₀ .tc) α}
    (q : DmaSem sig) (hq : q = locS j) (src : Memref sig .tc sp' s e) (dst : Memref sig .tc sp'' s e) (hs : src.view.set = Finset.univ) (hd : dst.view.set = Finset.univ)
    (h0 : 0 < s.numel)
    {hsrc : src.view.WordExact} {hdst : dst.view.WordExact} {hsem : DmaTarget.Typed (nD := nD) (τ := τ) (p := (c : Thread nD τ).2) sp' (.dma q) (.here dst)}
    (fs : Buf (Elt F) (src.view.loc (c : Thread nD τ))) (fd : Buf (Elt F) (dst.view.loc (c : Thread nD τ))) (gd : Buf (Elt F) (dst.view.loc (c : Thread nD τ)))
    (hg : dst.view.write (Elt F) fd (src.view.read (Elt F) fs) Finset.univ = gd) :
    iprop((src.view.loc (c : Thread nD τ) ↦{fullShare} fs) ∗ (dst.view.loc (c : Thread nD τ) ↦{fullShare} fd) ∗ semVal (locCell c j) 0)
      ⊢ iprop((Transfers.Flight EC (c : Thread nD τ) (.dma (locS j)) () dst.view.dmaCredit
              iprop((dst.view.loc (c : Thread nD τ) ↦{fullShare} gd) ∗ (src.view.loc (c : Thread nD τ) ↦{fullShare} fs))
            -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma src (.here dst) (.dma q) hsrc hdst hsem) k) Q) := by
  subst hq hg
  have key := Transfers.wp_dmaLocal EC 𝒱₀ (c : Thread nD τ) none (defs := defs₀ (F := F)) (Q := Q) (src := src) (via := ReadAs.same) (dst := dst) (sm := .dma (locS j)) (hsrc := hsrc)
    (hdst := hdst) (hsem := hsem) (k := k) (q := fullShare) (fs := fs) (Sd := Finset.univ) (fd := fd) () dst.view.dmaCredit rfl (View.dmaCredit_pos _ h0) (Finset.subset_univ _)
  rw [hs] at key
  exact key

end Cert.KernelIdealProof

end
-- ==== Proof.KernelIdealStart.lean ====
/-
What a device does before it computes: the barrier, the copies of its arguments, and the ready signals.
-/
module

public import proofs.«01_k».proof.Proof.KernelIdealLocal

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

theorem dev_cases : ∀ c : Dev nD, c = 0 ∨ c = 1 ∨ c = 2 ∨ c = 3 := by decide

/-- The copy of argument `src` into `dst`, on its way: `dst` will hold `gd`. -/
def flight (c : Dev nD) (j : Fin 5) {sp sp' : Space} {s : Shape} {e : EltTy} (src : Memref sig .tc sp s e) (dst : Memref sig .tc sp' s e)
    (fs : Buf (Elt F) (src.view.loc (c : Thread nD τ))) (gd : Buf (Elt F) (dst.view.loc (c : Thread nD τ))) : sProp 𝕄 :=
  Transfers.Flight EC (c : Thread nD τ) (.dma (locS j)) () dst.view.dmaCredit
    iprop((dst.view.loc (c : Thread nD τ) ↦{fullShare} gd) ∗ (src.view.loc (c : Thread nD τ) ↦{fullShare} fs))

def flight0 (c : Dev nD) : sProp 𝕄 := flight c 0 (Memref.whole main_arg2) (Memref.whole cc0_scratch6) (m ((c : Thread nD τ).loc main_arg2)) (m ((c : Thread nD τ).loc main_arg2))
def flight1 (c : Dev nD) : sProp 𝕄 := flight c 1 (Memref.whole main_arg3) (Memref.whole cc0_scratch7) (m ((c : Thread nD τ).loc main_arg3)) (m ((c : Thread nD τ).loc main_arg3))
def flight2 (c : Dev nD) : sProp 𝕄 := flight c 2 (Memref.whole main_arg0) (Memref.whole cc0_scratch4) (m ((c : Thread nD τ).loc main_arg0)) (m ((c : Thread nD τ).loc main_arg0))
def flight3 (c : Dev nD) : sProp 𝕄 := flight c 3 (Memref.whole main_arg1) (Memref.whole cc0_scratch5) (m ((c : Thread nD τ).loc main_arg1)) (m ((c : Thread nD τ).loc main_arg1))
def flight4 (c : Dev nD) : sProp 𝕄 := flight c 4 (Memref.whole main_arg4) (Memref.whole cc0_scratch8) (m ((c : Thread nD τ).loc main_arg4)) (m ((c : Thread nD τ).loc main_arg4))

/-- A buffer at some contents. -/
def anyAt (c : Dev nD) (b : Ref sig .tc) : sProp 𝕄 := iprop(∃ f, ((c : Thread nD τ).loc b) ↦{fullShare} f)
/-- A buffer at its contents at launch. -/
def orig (c : Dev nD) (b : Ref sig .tc) : sProp 𝕄 := ((c : Thread nD τ).loc b) ↦{fullShare} m ((c : Thread nD τ).loc b)

/-- The devices before and after a device. -/
abbrev below (c : Dev nD) : Finset (Fin 4) := Finset.univ.filter fun o => o < c
abbrev above (c : Dev nD) : Finset (Fin 4) := Finset.univ.filter fun d => c < d

/-- The devices up to a device, but for the first. -/
abbrev rest (c : Dev nD) : Finset (Fin 4) := Finset.univ.filter fun d => 0 < d ∧ d ≤ c

theorem below_zero : below 0 = ∅ := by decide

theorem bigSep_take {Φ : Fin 4 → sProp 𝕄} {S : Finset (Fin 4)} (a : Fin 4) (ha : a ∈ S) : bigSep S Φ ⊢ iprop(Φ a ∗ bigSep (S.erase a) Φ) :=
  Entails.of_eq (bigSep_erase ha)
theorem bigSep_put {Φ : Fin 4 → sProp 𝕄} {S : Finset (Fin 4)} (a : Fin 4) (ha : a ∈ S) : iprop(Φ a ∗ bigSep (S.erase a) Φ) ⊢ bigSep S Φ :=
  Entails.of_eq (bigSep_erase ha).symm

theorem dev1_eq : ∀ c : Dev nD, k0_dev1 c = (c + 1).val := by decide
theorem dev2_eq : ∀ c : Dev nD, k0_dev2 c = (c + 2).val := by decide
theorem dev3_eq : ∀ c : Dev nD, k0_dev3 c = (c + 3).val := by decide
theorem plus1_ne : ∀ c : Dev nD, c + 1 ≠ c := by decide
theorem plus2_ne : ∀ c : Dev nD, c + 2 ≠ c := by decide
theorem plus3_ne : ∀ c : Dev nD, c + 3 ≠ c := by decide

set_option maxHeartbeats 2000000 in
/-- From the barrier's last raise to the ready signals: the barrier, the start of the copies, and the signals. -/
theorem wp_part5 (K : Dev nD × Fin 13 → ℕ) (c : Dev nD) (f : KVBuf F) (v2 v30 c4 : BitVec 32) (v31 : BitVec 1) {α : Type} {Q : α → sProp 𝕄} {k : PUnit → Prog (TpuEff nD τ sig (Elt F) Λ₀ .tc) α} :
    iprop(records m K ∗ levAts L lv ∗ owing c (Owed c (above c) (below c) {c + 3}) ∗ dutyTok ER (barCell (c + 3)) 0 c
        ∗ cred (tallyAt (barCell c) () 3) ∗ atPos ER (barCell c) 0 ∅ 0
        ∗ (orig m c main_arg0 ∗ orig m c main_arg1 ∗ orig m c main_arg2 ∗ orig m c main_arg3 ∗ orig m c main_arg4)
        ∗ (anyAt c cc0_scratch4 ∗ anyAt c cc0_scratch5 ∗ anyAt c cc0_scratch6 ∗ anyAt c cc0_scratch7 ∗ anyAt c cc0_scratch8)
        ∗ (semVal (locCell c 0) 0 ∗ semVal (locCell c 1) 0 ∗ semVal (locCell c 2) 0 ∗ semVal (locCell c 3) 0 ∗ semVal (locCell c 4) 0)
        ∗ (bigSep (below c) fun o => dutyTok ER (crdCell o c) 0 c) ∗ (bigSep (below c) fun o => slotPts fullShare c o f))
      ⊢ iprop(((owing c (Owed c (above c) ∅ ∅) ∗ doneAt m (barCell c)
            ∗ flight0 m c ∗ flight1 m c ∗ flight2 m c ∗ flight3 m c ∗ flight4 m c)
            -∗ wp frame (wpE (defs₀ (F := F)) 𝒱₀ (c : Thread nD τ) none) Set.univ (k ⟨⟩) Q)
        -∗ wp frame (wpE (defs₀ (F := F)) 𝒱₀ (c : Thread nD τ) none) Set.univ
          (k0_part5 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 c v2 (SemArray.scalar (sig.barrier 0 rfl)) v30 c4 v31 >>= k) Q) := by
  rw [k0_part5_eq_skeleton]
  unfold k0_part5_skel anyAt orig flight0 flight1 flight2 flight3 flight4 flight
  simp only [semSignalWord, semWaitWord, Prog.lift, Prog.bind_op, Prog.bind_ret, Prog.pure_eq_ret]
  iintro ⟨#Hr, #Hl, HO, Htb, Hcb, Hab, ⟨A0, A1, A2, A3, A4⟩, ⟨⟨%f4, X4⟩, ⟨%f5, X5⟩, ⟨%f6, X6⟩, ⟨%f7, X7⟩, ⟨%f8, X8⟩⟩, ⟨V0, V1, V2, V3, V4⟩, Htc, Hsl⟩ Hk
  iapply (wp_barSig m K c (c + 3) _ (show (⟨k0_dev3 c, k0_dev3_lt c⟩ : Dev nD) = c + 3 from Fin.ext (dev3_eq c)) (plus3_ne c) _ rfl (above c) (below c) {c + 3} (Finset.mem_singleton_self _)) $$ [HO Htb]
  · isplitr; · iexact Hr
    isplitl [HO] <;> iassumption
  iintro HO
  rw [show ({c + 3} : Finset (Fin 4)).erase (c + 3) = ∅ from by rw [Finset.erase_eq_empty_iff]; exact Or.inr rfl]
  iapply (wp_barWait m K c _ rfl (above c) (below c)) $$ [HO Hcb Hab]
  · isplitr; · iexact Hr
    isplitr; · iexact Hl
    isplitl [HO]; · iexact HO
    isplitl [Hcb] <;> iassumption
  iintro ⟨HO, Hdb⟩
  iapply (wp_locCopy c 0 _ rfl (Memref.whole main_arg2) (Memref.whole cc0_scratch6) (View.set_whole _) (View.set_whole _) (by decide) (m ((c : Thread nD τ).loc main_arg2)) f6 (m ((c : Thread nD τ).loc main_arg2)) (View.write_whole_univ _ _ _)) $$ [A2 X6 V0]
  · isplitl [A2]; · iexact A2
    isplitl [X6] <;> iassumption
  iintro F0
  iapply (wp_locCopy c 1 _ rfl (Memref.whole main_arg3) (Memref.whole cc0_scratch7) (View.set_whole _) (View.set_whole _) (by decide) (m ((c : Thread nD τ).loc main_arg3)) f7 (m ((c : Thread nD τ).loc main_arg3)) (View.write_whole_univ _ _ _)) $$ [A3 X7 V1]
  · isplitl [A3]; · iexact A3
    isplitl [X7] <;> iassumption
  iintro F1
  iapply (wp_locCopy c 2 _ rfl (Memref.whole main_arg0) (Memref.whole cc0_scratch4) (View.set_whole _) (View.set_whole _) (by decide) (m ((c : Thread nD τ).loc main_arg0)) f4 (m ((c : Thread nD τ).loc main_arg0)) (View.write_whole_univ _ _ _)) $$ [A0 X4 V2]
  · isplitl [A0]; · iexact A0
    isplitl [X4] <;> iassumption
  iintro F2
  iapply (wp_locCopy c 3 _ rfl (Memref.whole main_arg1) (Memref.whole cc0_scratch5) (View.set_whole _) (View.set_whole _) (by decide) (m ((c : Thread nD τ).loc main_arg1)) f5 (m ((c : Thread nD τ).loc main_arg1)) (View.write_whole_univ _ _ _)) $$ [A1 X5 V3]
  · isplitl [A1]; · iexact A1
    isplitl [X5] <;> iassumption
  iintro F3
  iapply (wp_locCopy c 4 _ rfl (Memref.whole main_arg4) (Memref.whole cc0_scratch8) (View.set_whole _) (View.set_whole _) (by decide) (m ((c : Thread nD τ).loc main_arg4)) f8 (m ((c : Thread nD τ).loc main_arg4)) (View.write_whole_univ _ _ _)) $$ [A4 X8 V4]
  · isplitl [A4]; · iexact A4
    isplitl [X8] <;> iassumption
  iintro F4
  rcases dev_cases c with rfl | rfl | rfl | rfl
  · rw [dif_neg (by decide), dif_neg (by decide), dif_neg (by decide)]
    rw [below_zero]
    simp only [Prog.bind_ret]
    iapply Hk
    isplitl [HO]; · iexact HO
    isplitl [Hdb]; · iexact Hdb
    isplitl [F0]; · iexact F0
    isplitl [F1]; · iexact F1
    isplitl [F2]; · iexact F2
    isplitl [F3]; · iexact F3
    iexact F4
  · rw [dif_pos (by decide)]
    simp only [Prog.bind_op, Prog.bind_ret]
    icases (bigSep_take 0 (show (0 : Fin 4) ∈ (below 1) by decide)) $$ Htc with ⟨Ht, Htc⟩
    icases (bigSep_take 0 (show (0 : Fin 4) ∈ (below 1) by decide)) $$ Hsl with ⟨Hs, Hsl⟩
    iapply (wp_crdSig m K 1 0 _ (Fin.ext rfl) (by decide) _ rfl (above 1) (below 1) (by decide)) $$ [HO Ht Hs]
    · isplitr; · iexact Hr
      isplitl [HO]; · iexact HO
      isplitl [Ht]; · iexact Ht
      iexists f; iexact Hs
    iintro HO
    rw [show ((below 1).erase 0) = ∅ by decide]
    rw [dif_neg (by decide), dif_neg (by decide)]
    simp only [Prog.bind_ret]
    iapply Hk
    isplitl [HO]; · iexact HO
    isplitl [Hdb]; · iexact Hdb
    isplitl [F0]; · iexact F0
    isplitl [F1]; · iexact F1
    isplitl [F2]; · iexact F2
    isplitl [F3]; · iexact F3
    iexact F4
  · rw [dif_neg (by decide), dif_pos (by decide)]
    simp only [Prog.bind_op, Prog.bind_ret]
    icases (bigSep_take 0 (show (0 : Fin 4) ∈ (below 2) by decide)) $$ Htc with ⟨Ht, Htc⟩
    icases (bigSep_take 0 (show (0 : Fin 4) ∈ (below 2) by decide)) $$ Hsl with ⟨Hs, Hsl⟩
    iapply (wp_crdSig m K 2 0 _ (Fin.ext rfl) (by decide) _ rfl (above 2) (below 2) (by decide)) $$ [HO Ht Hs]
    · isplitr; · iexact Hr
      isplitl [HO]; · iexact HO
      isplitl [Ht]; · iexact Ht
      iexists f; iexact Hs
    iintro HO
    icases (bigSep_take 1 (show (1 : Fin 4) ∈ ((below 2).erase 0) by decide)) $$ Htc with ⟨Ht, Htc⟩
    icases (bigSep_take 1 (show (1 : Fin 4) ∈ ((below 2).erase 0) by decide)) $$ Hsl with ⟨Hs, Hsl⟩
    iapply (wp_crdSig m K 2 1 _ (Fin.ext rfl) (by decide) _ rfl (above 2) ((below 2).erase 0) (by decide)) $$ [HO Ht Hs]
    · isplitr; · iexact Hr
      isplitl [HO]; · iexact HO
      isplitl [Ht]; · iexact Ht
      iexists f; iexact Hs
    iintro HO
    rw [show (((below 2).erase 0).erase 1) = ∅ by decide]
    rw [dif_neg (by decide)]
    simp only [Prog.bind_ret]
    iapply Hk
    isplitl [HO]; · iexact HO
    isplitl [Hdb]; · iexact Hdb
    isplitl [F0]; · iexact F0
    isplitl [F1]; · iexact F1
    isplitl [F2]; · iexact F2
    isplitl [F3]; · iexact F3
    iexact F4
  · rw [dif_neg (by decide), dif_neg (by decide), dif_pos (by decide)]
    simp only [Prog.bind_op, Prog.bind_ret]
    icases (bigSep_take 0 (show (0 : Fin 4) ∈ (below 3) by decide)) $$ Htc with ⟨Ht, Htc⟩
    icases (bigSep_take 0 (show (0 : Fin 4) ∈ (below 3) by decide)) $$ Hsl with ⟨Hs, Hsl⟩
    iapply (wp_crdSig m K 3 0 _ (Fin.ext rfl) (by decide) _ rfl (above 3) (below 3) (by decide)) $$ [HO Ht Hs]
    · isplitr; · iexact Hr
      isplitl [HO]; · iexact HO
      isplitl [Ht]; · iexact Ht
      iexists f; iexact Hs
    iintro HO
    icases (bigSep_take 1 (show (1 : Fin 4) ∈ ((below 3).erase 0) by decide)) $$ Htc with ⟨Ht, Htc⟩
    icases (bigSep_take 1 (show (1 : Fin 4) ∈ ((below 3).erase 0) by decide)) $$ Hsl with ⟨Hs, Hsl⟩
    iapply (wp_crdSig m K 3 1 _ (Fin.ext rfl) (by decide) _ rfl (above 3) ((below 3).erase 0) (by decide)) $$ [HO Ht Hs]
    · isplitr; · iexact Hr
      isplitl [HO]; · iexact HO
      isplitl [Ht]; · iexact Ht
      iexists f; iexact Hs
    iintro HO
    icases (bigSep_take 2 (show (2 : Fin 4) ∈ (((below 3).erase 0).erase 1) by decide)) $$ Htc with ⟨Ht, Htc⟩
    icases (bigSep_take 2 (show (2 : Fin 4) ∈ (((below 3).erase 0).erase 1) by decide)) $$ Hsl with ⟨Hs, Hsl⟩
    iapply (wp_crdSig m K 3 2 _ (Fin.ext rfl) (by decide) _ rfl (above 3) (((below 3).erase 0).erase 1) (by decide)) $$ [HO Ht Hs]
    · isplitr; · iexact Hr
      isplitl [HO]; · iexact HO
      isplitl [Ht]; · iexact Ht
      iexists f; iexact Hs
    iintro HO
    rw [show ((((below 3).erase 0).erase 1).erase 2) = ∅ by decide]
    iapply Hk
    isplitl [HO]; · iexact HO
    isplitl [Hdb]; · iexact Hdb
    isplitl [F0]; · iexact F0
    isplitl [F1]; · iexact F1
    isplitl [F2]; · iexact F2
    isplitl [F3]; · iexact F3
    iexact F4

end Cert.KernelIdealProof

end
-- ==== Proof.KernelIdealSend.lean ====
/-
A device fills its slot of the key/value buffer and sends it to the devices after it that are ready for it.
-/
module

public import proofs.«01_k».proof.Proof.KernelIdealStart

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-- What a device holds to send its slot to device `d`. -/
def sendPre (c d : Dev nD) : sProp 𝕄 :=
  iprop((cred (tallyAt (crdCell c d) () 1) ∗ atPos ER (crdCell c d) 0 ∅ 0) ∗ dutyTok ER (sndCell c d) 0 c ∗ dutyTok ER (rcvCell d c) 0 c ∗ slotPts (lendShare d.val) c c (KV m))
/-- What it holds when the transfer is on its way. -/
def sendPost (c d : Dev nD) : sProp 𝕄 := iprop(cred (tallyAt (sndCell c d) () N) ∗ doneAt m (crdCell c d))

/-- Waiting until device `d` is ready, and sending it the slot. -/
theorem wp_readySend (K : Dev nD × Fin 13 → ℕ) {α : Type} {Q : α → sProp 𝕄} {k : PUnit → Prog (TpuEff nD τ sig (Elt F) Λ₀ .tc) α} (c d n : Dev nD) (hn : n = d) (hd : c < d) (R : Finset (Fin 4)) (hR : d ∈ R)
    (s : Sem sig) (hcr : s = crdS d)
    (src : Memref sig .tc .vmem S2x2x128x256 .bf16) (hs : src = slotM c)
    (dst : Memref sig (n : Thread nD τ).2.kind .vmem S2x2x128x256 .bf16) (hdM : dst = slotM c)
    (sS : DmaSem sig) (hsS : sS = sndS d) (rS : DmaSem sig) (hrS : rS = rcvS c)
    {hsc : dst.view.ref.isScScratch = false} {hsrc : src.view.WordExact} {hdst : dst.view.WordExact}
    {hsem : DmaTarget.Typed .vmem (.dma rS) (.remote (n : Thread nD τ) dst (.dma sS) hsc)} :
    iprop(records m K ∗ levAts L lv ∗ owing c (Owed c R ∅ ∅) ∗ sendPre m c d)
      ⊢ iprop(((owing c (Owed c (R.erase d) ∅ ∅) ∗ sendPost m c d) -∗ wp frame (wpE (defs₀ (F := F)) 𝒱₀ (c : Thread nD τ) none) Set.univ (k ⟨⟩) Q)
          -∗ wp frame (wpE (defs₀ (F := F)) 𝒱₀ (c : Thread nD τ) none) Set.univ
            (.op (.semWait s ((1 : ℕ) : ℤ)) fun _ => .op (.enqueueDma src (.remote (n : Thread nD τ) dst (.dma sS) hsc) (.dma rS) hsrc hdst hsem) k) Q) := by
  unfold sendPre sendPost
  iintro ⟨#Hr, #Hl, HO, ⟨Hc, Hat⟩, Ht1, Ht2, Hs⟩ Hk
  iapply (wp_crdWait m K c d hd s hcr R) $$ [HO Hc Hat]
  · isplitr; · iexact Hr
    isplitr; · iexact Hl
    isplitl [HO]; · iexact HO
    isplitl [Hc] <;> iassumption
  iintro ⟨HO, Hd, Hf⟩
  iapply (wp_sendSlot m K c d n hn hd R hR src hs dst hdM sS hsS rS hrS) $$ [HO Ht1 Ht2 Hs Hf]
  · isplitr; · iexact Hr
    isplitl [HO]; · iexact HO
    isplitl [Ht1]; · iexact Ht1
    isplitl [Ht2]; · iexact Ht2
    isplitl [Hs] <;> iassumption
  iintro ⟨HO, Hc⟩
  iapply Hk
  isplitl [HO]; · iexact HO
  isplitl [Hc] <;> iassumption

theorem whole_read6 (f : (cc0_scratch6 : Ref sig .tc).ty.Contents (Elt F)) :
    View.readAt (Elt F) (Memref.whole cc0_scratch6).view (Rect.unit (s := S2x128x4x64) ![0, 0, 0, 0] ![2, 128, 4, 64] inb_S2x128x4x64_S2x128x4x64_0_0_0_0).toLoadRect f = f :=
  Memref.readAt_unit_zero (Elt F) cc0_scratch6 (funext fun a => by fin_cases a <;> rfl) _ f

theorem whole_read7 (f : (cc0_scratch7 : Ref sig .tc).ty.Contents (Elt F)) :
    View.readAt (Elt F) (Memref.whole cc0_scratch7).view (Rect.unit (s := S2x128x4x64) ![0, 0, 0, 0] ![2, 128, 4, 64] inb_S2x128x4x64_S2x128x4x64_0_0_0_0).toLoadRect f = f :=
  Memref.readAt_unit_zero (Elt F) cc0_scratch7 (funext fun a => by fin_cases a <;> rfl) _ f

theorem loadK_sub (c : Dev nD) : kvM.view.setOn (rectK c).toLoadRect.set ⊆ slotSet c := by
  intro i hi
  exact rectK_sub c (show i ∈ (kvM.access (rectK c)).set by rw [View.set_slice]; exact hi)

theorem loadV_sub (c : Dev nD) : kvM.view.setOn (rectV c).toLoadRect.set ⊆ slotSet c := by
  intro i hi
  exact rectV_sub c (show i ∈ (kvM.access (rectV c)).set by rw [View.set_slice]; exact hi)

/-- After the two stores the slot holds the keys and values. -/
theorem stored_slot (c : Dev nD) (f : KVBuf F) :
    (View.loc (c : Thread nD τ) (kvM.access (rectV c)) ↦[slotSet c]{fullShare}
      View.write (Elt F) (kvM.access (rectV c)) (View.write (Elt F) (kvM.access (rectK c)) f (k0_pay1 (m ((c : Thread nD τ).loc main_arg2))) Finset.univ)
        (k0_pay2 (m ((c : Thread nD τ).loc main_arg3))) Finset.univ : sProp 𝕄) ⊢ slotPts fullShare c c (KV m) :=
  Entails.of_eq (slotPts_stored m c f fullShare)

theorem bigSep_none {Φ : Fin 4 → sProp 𝕄} : (iprop(emp) : sProp 𝕄) ⊢ bigSep (∅ : Finset (Fin 4)) Φ := BI.Entails.refl _

theorem lend_sets : ∀ c : Dev nD, ({1, 2, 3} : Finset (Fin 4)) = above c ∪ rest c := by decide
theorem lend_disj : ∀ c : Dev nD, Disjoint (above c) (rest c) := by decide

/-- The three lent shares, by whether there is a transfer to lend them to. -/
theorem lends_eq (c : Dev nD) (Φ : Fin 4 → sProp 𝕄) : iprop(Φ 1 ∗ Φ 2 ∗ Φ 3) = iprop(bigSep (above c) Φ ∗ bigSep (rest c) Φ) := by
  rw [show iprop(Φ 1 ∗ Φ 2 ∗ Φ 3) = bigSep ({1, 2, 3} : Finset (Fin 4)) Φ from
    ((bigSep_insert (show (1 : Fin 4) ∉ ({2, 3} : Finset (Fin 4)) by decide)).trans
      (congrArg _ ((bigSep_insert (show (2 : Fin 4) ∉ ({3} : Finset (Fin 4)) by decide)).trans (congrArg _ bigSep_singleton)))).symm, lend_sets c]
  exact bigSep_union (lend_disj c)

theorem lends (c : Dev nD) : (iprop(slotPts (lendShare 1) c c (KV m) ∗ slotPts (lendShare 2) c c (KV m) ∗ slotPts (lendShare 3) c c (KV m)) : sProp 𝕄)
    ⊢ iprop((bigSep (above c) fun d => slotPts (lendShare d.val) c c (KV m)) ∗ bigSep (rest c) fun d => slotPts (lendShare d.val) c c (KV m)) :=
  Entails.of_eq (lends_eq c fun d => slotPts (lendShare d.val) c c (KV m))
theorem unlend (c : Dev nD) : (iprop((bigSep (above c) fun d => slotPts (lendShare d.val) c c (KV m)) ∗ bigSep (rest c) fun d => slotPts (lendShare d.val) c c (KV m)) : sProp 𝕄)
    ⊢ iprop(slotPts (lendShare 1) c c (KV m) ∗ slotPts (lendShare 2) c c (KV m) ∗ slotPts (lendShare 3) c c (KV m)) :=
  Entails.of_eq (lends_eq c fun d => slotPts (lendShare d.val) c c (KV m)).symm

set_option maxHeartbeats 2000000 in
/-- The slot filled and lent out; the transfers on their way. -/
theorem wp_part6 (K : Dev nD × Fin 13 → ℕ) (c : Dev nD) (f : KVBuf F) (v2 : BitVec 32) {α : Type} {Q : α → sProp 𝕄} {k : PUnit → Prog (TpuEff nD τ sig (Elt F) Λ₀ .tc) α} :
    iprop(records m K ∗ levAts L lv ∗ owing c (Owed c (above c) ∅ ∅) ∗ flight0 m c ∗ flight1 m c ∗ slotPts fullShare c c f
        ∗ (bigSep (above c) fun d => iprop(cred (tallyAt (crdCell c d) () 1) ∗ atPos ER (crdCell c d) 0 ∅ 0))
        ∗ (bigSep (above c) fun d => dutyTok ER (sndCell c d) 0 c) ∗ (bigSep (above c) fun d => dutyTok ER (rcvCell d c) 0 c))
      ⊢ iprop(((owing c (Owed c ∅ ∅ ∅) ∗ (orig m c main_arg2 ∗ orig m c main_arg3) ∗ (anyAt c cc0_scratch6 ∗ anyAt c cc0_scratch7) ∗ (semVal (locCell c 0) 0 ∗ semVal (locCell c 1) 0)
            ∗ slotPts fullShare.left c c (KV m) ∗ (bigSep (rest c) fun d => slotPts (lendShare d.val) c c (KV m)) ∗ bigSep (above c) fun d => sendPost m c d)
            -∗ wp frame (wpE (defs₀ (F := F)) 𝒱₀ (c : Thread nD τ) none) Set.univ (k ⟨⟩) Q)
        -∗ wp frame (wpE (defs₀ (F := F)) 𝒱₀ (c : Thread nD τ) none) Set.univ
          (k0_part6 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 c v2 >>= k) Q) := by
  rw [k0_part6_eq_skeleton]
  unfold k0_part6_skel flight0 flight1 flight
  simp only [semSignalWord, semWaitWord, Prog.lift, Prog.bind_op, Prog.bind_ret, Prog.pure_eq_ret]
  iintro ⟨#Hr, #Hl, HO, F0, F1, Hs, Hc, Ht1, Ht2⟩ Hk
  iapply (wp_locWait c 0 (above c) ∅ _ rfl _ _ rfl) $$ [HO F0]
  · isplitr; · iexact Hl
    isplitl [HO] <;> iassumption
  iintro ⟨HO, V0, X6, A2⟩
  iapply (wp_locWait c 1 (above c) ∅ _ rfl _ _ rfl) $$ [HO F1]
  · isplitr; · iexact Hl
    isplitl [HO] <;> iassumption
  iintro ⟨HO, V1, X7, A3⟩
  iapply (wp_load 𝒱₀ (c : Thread nD τ) none Set.univ (m := Memref.whole cc0_scratch6) (Finset.subset_univ _)) $$ [X6]
  · iexact X6
  iintro X6
  rw [whole_read6 (m ((c : Thread nD τ).loc main_arg2))]
  iapply (wp_load 𝒱₀ (c : Thread nD τ) none Set.univ (m := kvM) (r := (rectK c).toLoadRect) (S := slotSet c) (loadK_sub c)) $$ [Hs]
  · unfold slotPts; iexact Hs
  iintro Hs
  iapply (wp_store 𝒱₀ (c : Thread nD τ) none Set.univ (m := kvM) (S := slotSet c) (r := rectK c) (rectK_sub c)) $$ [Hs]
  · iexact Hs
  iintro Hs
  iapply (wp_load 𝒱₀ (c : Thread nD τ) none Set.univ (m := Memref.whole cc0_scratch7) (Finset.subset_univ _)) $$ [X7]
  · iexact X7
  iintro X7
  rw [whole_read7 (m ((c : Thread nD τ).loc main_arg3))]
  iapply (wp_load 𝒱₀ (c : Thread nD τ) none Set.univ (m := kvM) (r := (rectV c).toLoadRect) (S := slotSet c) (loadV_sub c)) $$ [Hs]
  · iexact Hs
  iintro Hs
  iapply (wp_store 𝒱₀ (c : Thread nD τ) none Set.univ (m := kvM) (S := slotSet c) (r := rectV c) (rectV_sub c)) $$ [Hs]
  · iexact Hs
  iintro Hs
  ihave Hs := (stored_slot m c f) $$ Hs
  icases (slot_lend c c (KV m)).1 $$ Hs with ⟨Hs, Hlend⟩
  icases (lends m c) $$ Hlend with ⟨Hlend, Hrest⟩
  unfold orig anyAt
  rcases dev_cases c with rfl | rfl | rfl | rfl
  · rw [dif_pos (by decide), k0_part1_eq_skeleton]
    unfold k0_part1_skel
    simp only [semSignalWord, semWaitWord, Prog.lift, Prog.bind_op, Prog.bind_ret, Prog.pure_eq_ret]
    icases (bigSep_take 1 (show (1 : Fin 4) ∈ (above 0) by decide)) $$ Hc with ⟨Hc', Hc⟩
    icases (bigSep_take 1 (show (1 : Fin 4) ∈ (above 0) by decide)) $$ Ht1 with ⟨Ht1', Ht1⟩
    icases (bigSep_take 1 (show (1 : Fin 4) ∈ (above 0) by decide)) $$ Ht2 with ⟨Ht2', Ht2⟩
    icases (bigSep_take 1 (show (1 : Fin 4) ∈ (above 0) by decide)) $$ Hlend with ⟨Hs', Hlend⟩
    iapply (wp_readySend m K 0 1 _ (Fin.ext rfl) (by decide) (above 0) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P1⟩
    icases (bigSep_take 3 (show (3 : Fin 4) ∈ ((above 0).erase 1) by decide)) $$ Hc with ⟨Hc', Hc⟩
    icases (bigSep_take 3 (show (3 : Fin 4) ∈ ((above 0).erase 1) by decide)) $$ Ht1 with ⟨Ht1', Ht1⟩
    icases (bigSep_take 3 (show (3 : Fin 4) ∈ ((above 0).erase 1) by decide)) $$ Ht2 with ⟨Ht2', Ht2⟩
    icases (bigSep_take 3 (show (3 : Fin 4) ∈ ((above 0).erase 1) by decide)) $$ Hlend with ⟨Hs', Hlend⟩
    iapply (wp_readySend m K 0 3 _ (Fin.ext rfl) (by decide) ((above 0).erase 1) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P3⟩
    icases (bigSep_take 2 (show (2 : Fin 4) ∈ (((above 0).erase 1).erase 3) by decide)) $$ Hc with ⟨Hc', Hc⟩
    icases (bigSep_take 2 (show (2 : Fin 4) ∈ (((above 0).erase 1).erase 3) by decide)) $$ Ht1 with ⟨Ht1', Ht1⟩
    icases (bigSep_take 2 (show (2 : Fin 4) ∈ (((above 0).erase 1).erase 3) by decide)) $$ Ht2 with ⟨Ht2', Ht2⟩
    icases (bigSep_take 2 (show (2 : Fin 4) ∈ (((above 0).erase 1).erase 3) by decide)) $$ Hlend with ⟨Hs', Hlend⟩
    iapply (wp_readySend m K 0 2 _ (Fin.ext rfl) (by decide) (((above 0).erase 1).erase 3) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P2⟩
    rw [show ((((above 0).erase 1).erase 3).erase 2) = ∅ by decide]
    rw [dif_neg (by decide), dif_neg (by decide)]
    simp only [Prog.bind_ret]
    iapply Hk
    isplitl [HO]; · iexact HO
    isplitl [A2 A3]; · isplitl [A2] <;> iassumption
    isplitl [X6 X7]; · isplitl [X6] <;> (iexists _; iassumption)
    isplitl [V0 V1]; · isplitl [V0] <;> iassumption
    isplitl [Hs]; · iexact Hs
    isplitl [Hrest]; · iexact Hrest
    iapply (bigSep_put 1 (show (1 : Fin 4) ∈ (above 0) by decide))
    isplitl [P1]; · iexact P1
    iapply (bigSep_put 3 (show (3 : Fin 4) ∈ ((above 0).erase 1) by decide))
    isplitl [P3]; · iexact P3
    iapply (bigSep_put 2 (show (2 : Fin 4) ∈ (((above 0).erase 1).erase 3) by decide))
    isplitl [P2]; · iexact P2
    rw [show ((((above 0).erase 1).erase 3).erase 2) = ∅ by decide]
    iapply bigSep_none; iempintro
  · rw [dif_neg (by decide), dif_pos (by decide), k0_part2_eq_skeleton]
    unfold k0_part2_skel
    simp only [semSignalWord, semWaitWord, Prog.lift, Prog.bind_op, Prog.bind_ret, Prog.pure_eq_ret]
    icases (bigSep_take 2 (show (2 : Fin 4) ∈ (above 1) by decide)) $$ Hc with ⟨Hc', Hc⟩
    icases (bigSep_take 2 (show (2 : Fin 4) ∈ (above 1) by decide)) $$ Ht1 with ⟨Ht1', Ht1⟩
    icases (bigSep_take 2 (show (2 : Fin 4) ∈ (above 1) by decide)) $$ Ht2 with ⟨Ht2', Ht2⟩
    icases (bigSep_take 2 (show (2 : Fin 4) ∈ (above 1) by decide)) $$ Hlend with ⟨Hs', Hlend⟩
    iapply (wp_readySend m K 1 2 _ (Fin.ext rfl) (by decide) (above 1) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P2⟩
    icases (bigSep_take 3 (show (3 : Fin 4) ∈ ((above 1).erase 2) by decide)) $$ Hc with ⟨Hc', Hc⟩
    icases (bigSep_take 3 (show (3 : Fin 4) ∈ ((above 1).erase 2) by decide)) $$ Ht1 with ⟨Ht1', Ht1⟩
    icases (bigSep_take 3 (show (3 : Fin 4) ∈ ((above 1).erase 2) by decide)) $$ Ht2 with ⟨Ht2', Ht2⟩
    icases (bigSep_take 3 (show (3 : Fin 4) ∈ ((above 1).erase 2) by decide)) $$ Hlend with ⟨Hs', Hlend⟩
    iapply (wp_readySend m K 1 3 _ (Fin.ext rfl) (by decide) ((above 1).erase 2) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P3⟩
    rw [show (((above 1).erase 2).erase 3) = ∅ by decide]
    rw [dif_neg (by decide)]
    simp only [Prog.bind_ret]
    iapply Hk
    isplitl [HO]; · iexact HO
    isplitl [A2 A3]; · isplitl [A2] <;> iassumption
    isplitl [X6 X7]; · isplitl [X6] <;> (iexists _; iassumption)
    isplitl [V0 V1]; · isplitl [V0] <;> iassumption
    isplitl [Hs]; · iexact Hs
    isplitl [Hrest]; · iexact Hrest
    iapply (bigSep_put 2 (show (2 : Fin 4) ∈ (above 1) by decide))
    isplitl [P2]; · iexact P2
    iapply (bigSep_put 3 (show (3 : Fin 4) ∈ ((above 1).erase 2) by decide))
    isplitl [P3]; · iexact P3
    rw [show (((above 1).erase 2).erase 3) = ∅ by decide]
    iapply bigSep_none; iempintro
  · rw [dif_neg (by decide), dif_neg (by decide), dif_pos (by decide)]
    simp only [Prog.bind_op, Prog.bind_ret]
    icases (bigSep_take 3 (show (3 : Fin 4) ∈ (above 2) by decide)) $$ Hc with ⟨Hc', Hc⟩
    icases (bigSep_take 3 (show (3 : Fin 4) ∈ (above 2) by decide)) $$ Ht1 with ⟨Ht1', Ht1⟩
    icases (bigSep_take 3 (show (3 : Fin 4) ∈ (above 2) by decide)) $$ Ht2 with ⟨Ht2', Ht2⟩
    icases (bigSep_take 3 (show (3 : Fin 4) ∈ (above 2) by decide)) $$ Hlend with ⟨Hs', Hlend⟩
    iapply (wp_readySend m K 2 3 _ (Fin.ext rfl) (by decide) (above 2) (by decide) _ rfl _ rfl _ rfl _ rfl _ rfl) $$ [HO Hc' Ht1' Ht2' Hs']
    · isplitr; · iexact Hr
      isplitr; · iexact Hl
      isplitl [HO]; · iexact HO
      unfold sendPre
      isplitl [Hc']; · iexact Hc'
      isplitl [Ht1']; · iexact Ht1'
      isplitl [Ht2'] <;> iassumption
    iintro ⟨HO, P3⟩
    rw [show ((above 2).erase 3) = ∅ by decide]
    iapply Hk
    isplitl [HO]; · iexact HO
    isplitl [A2 A3]; · isplitl [A2] <;> iassumption
    isplitl [X6 X7]; · isplitl [X6] <;> (iexists _; iassumption)
    isplitl [V0 V1]; · isplitl [V0] <;> iassumption
    isplitl [Hs]; · iexact Hs
    isplitl [Hrest]; · iexact Hrest
    iapply (bigSep_put 3 (show (3 : Fin 4) ∈ (above 2) by decide))
    isplitl [P3]; · iexact P3
    rw [show ((above 2).erase 3) = ∅ by decide]
    iapply bigSep_none; iempintro
  · rw [dif_neg (by decide), dif_neg (by decide), dif_neg (by decide), show above 3 = ∅ by decide]
    simp only [Prog.bind_ret]
    iapply Hk
    isplitl [HO]; · iexact HO
    isplitl [A2 A3]; · isplitl [A2] <;> iassumption
    isplitl [X6 X7]; · isplitl [X6] <;> (iexists _; iassumption)
    isplitl [V0 V1]; · isplitl [V0] <;> iassumption
    isplitl [Hs]; · iexact Hs
    isplitl [Hrest]; · iexact Hrest
    iapply bigSep_none; iempintro

end Cert.KernelIdealProof

end
-- ==== Proof.KernelIdealBody.lean ====
/-
The body of the kernel on one device: what it is given, what it leaves.
-/
module

public import proofs.«01_k».proof.Proof.KernelIdealSend

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## Splitting what is indexed by the devices -/

theorem univ_parts : ∀ c : Dev nD, (Finset.univ : Finset (Fin 4)) = below c ∪ ({c} ∪ above c) := by decide
theorem disj_below : ∀ c : Dev nD, Disjoint (below c) ({c} ∪ above c) := by decide
theorem disj_self : ∀ c : Dev nD, Disjoint ({c} : Finset (Fin 4)) (above c) := by decide

theorem split_eq (c : Dev nD) (Φ : Fin 4 → sProp 𝕄) : bigSep Finset.univ Φ = iprop(bigSep (below c) Φ ∗ Φ c ∗ bigSep (above c) Φ) := by
  rw [univ_parts c]
  exact (bigSep_union (disj_below c)).trans (congrArg _ ((bigSep_union (disj_self c)).trans (congrArg (fun x => BI.sep x _) bigSep_singleton)))

theorem split (c : Dev nD) (Φ : Fin 4 → sProp 𝕄) : bigSep Finset.univ Φ ⊢ iprop(bigSep (below c) Φ ∗ Φ c ∗ bigSep (above c) Φ) := Entails.of_eq (split_eq c Φ)
theorem unsplit (c : Dev nD) (Φ : Fin 4 → sProp 𝕄) : iprop(bigSep (below c) Φ ∗ Φ c ∗ bigSep (above c) Φ) ⊢ bigSep Finset.univ Φ := Entails.of_eq (split_eq c Φ).symm

theorem both (S : Finset (Fin 4)) (Φ Ψ : Fin 4 → sProp 𝕄) : iprop(bigSep S Φ ∗ bigSep S Ψ) ⊢ bigSep S fun i => iprop(Φ i ∗ Ψ i) := Entails.of_eq (BI.bigSep_sep' S Φ Ψ).symm
theorem apart (S : Finset (Fin 4)) (Φ Ψ : Fin 4 → sProp 𝕄) : (bigSep S fun i => iprop(Φ i ∗ Ψ i)) ⊢ iprop(bigSep S Φ ∗ bigSep S Ψ) := Entails.of_eq (BI.bigSep_sep' S Φ Ψ)

theorem four (Φ : Fin 4 → sProp 𝕄) : bigSep Finset.univ Φ ⊢ iprop(Φ 0 ∗ Φ 1 ∗ Φ 2 ∗ Φ 3) := Entails.of_eq (bigSep_univ_eq_bigSepL [0, 1, 2, 3] (by decide) (by decide) Φ)
theorem unfour (Φ : Fin 4 → sProp 𝕄) : iprop(Φ 0 ∗ Φ 1 ∗ Φ 2 ∗ Φ 3) ⊢ bigSep Finset.univ Φ := Entails.of_eq (bigSep_univ_eq_bigSepL [0, 1, 2, 3] (by decide) (by decide) Φ).symm

/-- The whole buffer, slot by slot. -/
theorem slots_split (c : Dev nD) (f : KVBuf F) : (((c : Thread nD τ).loc cc0_scratch0) ↦{fullShare} f : sProp 𝕄)
    ⊢ iprop((bigSep (below c) fun n => slotPts fullShare c n f) ∗ slotPts fullShare c c f ∗ bigSep (above c) fun n => slotPts fullShare c n f) :=
  (Entails.of_eq (slots_eq c f)).trans (split c _)

theorem idle_crd : ∀ c i : Dev nD, i ≤ c → dset c (.reg (crdS i)) = ∅ := by decide
theorem idle_snd : ∀ c d : Dev nD, d ≤ c → dset c (.dma (sndS d)) = ∅ := by decide
theorem idle_rcv : ∀ c s : Dev nD, c ≤ s → dset c (.dma (rcvS s)) = ∅ := by decide

/-- Counters nobody raises. -/
theorem idle (c : Dev nD) (S : Finset (Fin 4)) (sm : Fin 4 → SemLoc sig) (h : ∀ i ∈ S, dset c (sm i) = ∅) :
    (bigSep S fun i => (atPos ER ((c : Thread nD τ), sm i) 0 ∅ 0 : sProp 𝕄)) ⊢ bigSep S fun i => doneAt m ((c : Thread nD τ), sm i) :=
  bigSep_mono fun i hi => doneAt_zero m c (sm i) (h i hi)

/-- The slots before the reads: those to come, the device's own, and those it is not to see. -/
theorem await_intro (c : Dev nD) (g : KVBuf F) :
    iprop((bigSep (below c) fun s => iprop(cred (tallyAt (rcvCell c s) () N) ∗ atPos ER (rcvCell c s) 0 ∅ 0))
        ∗ (doneAt m (rcvCell c c) ∗ slotPts fullShare.left c c (KV m)) ∗ bigSep (above c) fun s => iprop(doneAt m (rcvCell c s) ∗ slotPts fullShare c s g))
      ⊢ iprop(awaited m g c 0 ∗ awaited m g c 1 ∗ awaited m g c 2 ∗ awaited m g c 3) := by
  refine (BIClass.sep_mono (bigSep_mono fun s hs => ?_) (BIClass.sep_mono ?_ (bigSep_mono fun s hs => ?_))).trans ((unsplit c (awaited m g c)).trans (four _))
  · unfold awaited; rw [if_pos (Finset.mem_filter.mp hs).2]; exact Idealize.SL.BI.Entails.refl _
  · unfold awaited held readShare seen; rw [if_neg (lt_irrefl c), if_pos rfl, if_pos (le_refl c)]
  · have h : c < s := (Finset.mem_filter.mp hs).2
    unfold awaited held readShare seen; rw [if_neg (lt_asymm h), if_neg (ne_of_gt h), if_neg (not_le_of_gt h)]; exact Idealize.SL.BI.Entails.refl _

/-- The slots after the reads. -/
theorem held_all (c : Dev nD) (g : KVBuf F) :
    iprop(held m g c 0 ∗ held m g c 1 ∗ held m g c 2 ∗ held m g c 3)
      ⊢ iprop((bigSep (below c) fun s => slotPts fullShare c s (KV m)) ∗ slotPts fullShare.left c c (KV m) ∗ bigSep (above c) fun s => slotPts fullShare c s g) := by
  refine ((unfour _).trans (split c (held m g c))).trans (BIClass.sep_mono (bigSep_mono fun s hs => ?_) (BIClass.sep_mono ?_ (bigSep_mono fun s hs => ?_)))
  · have h : s < c := (Finset.mem_filter.mp hs).2
    unfold held readShare seen; rw [if_neg (ne_of_lt h), if_pos (le_of_lt h)]; exact Idealize.SL.BI.Entails.refl _
  · unfold held readShare seen; rw [if_pos rfl, if_pos (le_refl c)]
  · have h : c < s := (Finset.mem_filter.mp hs).2
    unfold held readShare seen; rw [if_neg (ne_of_gt h), if_neg (not_le_of_gt h)]; exact Idealize.SL.BI.Entails.refl _

/-! ## The result -/

abbrev xM : Memref sig .tc .vmem S2x128x512 .f32 := Memref.whole cc0_scratch4
abbrev outM : Memref sig .tc .vmem S2x128x512 .f32 := Memref.whole cc0_stg0_0
abbrev rect0 : Rect S2x128x512 := Rect.unit (s := S2x128x512) ![0, 0, 0] S1x128x512.size inb_S2x128x512_S1x128x512_0_0_0
abbrev rect1 : Rect S2x128x512 := Rect.unit (s := S2x128x512) ![1, 0, 0] S1x128x512.size inb_S2x128x512_S1x128x512_1_0_0

/-- A batch row's queries. -/
def query0 (c : Dev nD) : FVec F S128x256 .f32 :=
  k0_pay4 (m ((c : Thread nD τ).loc main_arg1)) (xM.view.readAt (Elt F) rect0.toLoadRect (m ((c : Thread nD τ).loc main_arg0)))
def query1 (c : Dev nD) : FVec F S128x256 .f32 :=
  k0_pay5 (m ((c : Thread nD τ).loc main_arg1)) (xM.view.readAt (Elt F) rect1.toLoadRect (m ((c : Thread nD τ).loc main_arg0)))

/-- The two batch rows' results stored over contents `f`. -/
def outOver (c : Dev nD) (g : Fin 4 → KVBuf F) (f : (cc0_stg0_0 : Ref sig .tc).ty.Contents (Elt F)) : (cc0_stg0_0 : Ref sig .tc).ty.Contents (Elt F) :=
  (outM.access rect1 : View sig .tc _ _ _).write (Elt F)
    ((outM.access rect0 : View sig .tc _ _ _).write (Elt F) f (rowO (BitVec.ofNat 32 c.val) (query0 m c) g 0 (m ((c : Thread nD τ).loc main_arg4))) Finset.univ)
    (rowO (BitVec.ofNat 32 c.val) (query1 m c) g 1 (m ((c : Thread nD τ).loc main_arg4))) Finset.univ

/-- The result of device `c`. -/
def outC (c : Dev nD) : (cc0_stg0_0 : Ref sig .tc).ty.Contents (Elt F) := outOver m c (fun _ => KV m) (m ((c : Thread nD τ).loc cc0_stg0_0))

theorem rows_cover (i : S2x128x512.Idx) : i ∈ (rect0).set ∨ i ∈ (rect1).set := by
  have h0 : (i 0).val < 2 := (i 0).isLt
  have h1 : (i 1).val < 128 := (i 1).isLt
  have h2 : (i 2).val < 512 := (i 2).isLt
  rcases Nat.lt_or_ge (i 0).val 1 with h | h
  · left
    rw [Rect.mem_set_unit]
    intro a
    fin_cases a
    · show 0 ≤ (i 0).val ∧ (i 0).val < 0 + 1; omega
    · show 0 ≤ (i 1).val ∧ (i 1).val < 0 + 128; omega
    · show 0 ≤ (i 2).val ∧ (i 2).val < 0 + 512; omega
  · right
    rw [Rect.mem_set_unit]
    intro a
    fin_cases a
    · show 1 ≤ (i 0).val ∧ (i 0).val < 1 + 1; omega
    · show 0 ≤ (i 1).val ∧ (i 1).val < 0 + 128; omega
    · show 0 ≤ (i 2).val ∧ (i 2).val < 0 + 512; omega

/-- The stores over any contents, of what the slots the device sees hold, leave the result. -/
theorem outOver_eq (c : Dev nD) (g : KVBuf F) (f : (cc0_stg0_0 : Ref sig .tc).ty.Contents (Elt F)) : outOver m c (seen m g c) f = outC m c := by
  have hg : ∀ s, s ≤ c → seen m g c s = (fun _ => KV m) s := fun s hs => if_pos hs
  unfold outC outOver
  rw [rowO_congr c (query0 m c) hg, rowO_congr c (query1 m c) hg]
  funext i
  apply write_univ_congr
  rcases rows_cover i with h | h
  · right
    apply write_univ_congr
    left
    rw [View.set_slice_whole]; exact h
  · left
    rw [View.set_slice_whole]; exact h

/-! ## The body -/

/-- What a device's body is given. -/
def given (K : Dev nD × Fin 13 → ℕ) (c : Dev nD) : sProp 𝕄 :=
  iprop(records m K ∗ levAts L lv
    ∗ (cred (tallyAt (barCell c) () 3) ∗ atPos ER (barCell c) 0 ∅ 0)
    ∗ (bigSep Finset.univ fun i => atPos ER (crdCell c i) 0 ∅ 0) ∗ (bigSep Finset.univ fun i => atPos ER (sndCell c i) 0 ∅ 0) ∗ (bigSep Finset.univ fun i => atPos ER (rcvCell c i) 0 ∅ 0)
    ∗ (bigSep (above c) fun d => cred (tallyAt (crdCell c d) () 1)) ∗ (bigSep (below c) fun s => cred (tallyAt (rcvCell c s) () N))
    ∗ (bigSep (Finset.univ.erase c) fun i => dutyTok ER (barCell i) 0 c) ∗ (bigSep (below c) fun o => dutyTok ER (crdCell o c) 0 c)
    ∗ (bigSep (above c) fun d => dutyTok ER (sndCell c d) 0 c) ∗ (bigSep (above c) fun d => dutyTok ER (rcvCell d c) 0 c)
    ∗ (orig m c main_arg0 ∗ orig m c main_arg1 ∗ orig m c main_arg2 ∗ orig m c main_arg3 ∗ orig m c main_arg4)
    ∗ (anyAt c cc0_scratch4 ∗ anyAt c cc0_scratch5 ∗ anyAt c cc0_scratch6 ∗ anyAt c cc0_scratch7 ∗ anyAt c cc0_scratch8)
    ∗ (semVal (locCell c 0) 0 ∗ semVal (locCell c 1) 0 ∗ semVal (locCell c 2) 0 ∗ semVal (locCell c 3) 0 ∗ semVal (locCell c 4) 0)
    ∗ ∃ f : KVBuf F, ((c : Thread nD τ).loc cc0_scratch0) ↦{fullShare} f)

/-- What it leaves. -/
def left (c : Dev nD) : sProp 𝕄 :=
  iprop((doneAt m (barCell c) ∗ (bigSep Finset.univ fun i => doneAt m (crdCell c i)) ∗ (bigSep Finset.univ fun i => doneAt m (sndCell c i)) ∗ bigSep Finset.univ fun i => doneAt m (rcvCell c i))
    ∗ (semVal (locCell c 0) 0 ∗ semVal (locCell c 1) 0 ∗ semVal (locCell c 2) 0 ∗ semVal (locCell c 3) 0 ∗ semVal (locCell c 4) 0)
    ∗ (orig m c main_arg0 ∗ orig m c main_arg1 ∗ orig m c main_arg2 ∗ orig m c main_arg3 ∗ orig m c main_arg4)
    ∗ (anyAt c cc0_scratch4 ∗ anyAt c cc0_scratch5 ∗ anyAt c cc0_scratch6 ∗ anyAt c cc0_scratch7 ∗ anyAt c cc0_scratch8)
    ∗ ∃ f : KVBuf F, ((c : Thread nD τ).loc cc0_scratch0) ↦{fullShare} f)

theorem others : ∀ c : Dev nD, (((Finset.univ.erase c).erase (c + 1)).erase (c + 2) : Finset (Fin 4)) = {c + 3} := by decide
theorem mem1 : ∀ c : Dev nD, c + 1 ∈ (Finset.univ.erase c : Finset (Fin 4)) := by decide
theorem mem2 : ∀ c : Dev nD, c + 2 ∈ ((Finset.univ.erase c).erase (c + 1) : Finset (Fin 4)) := by decide

theorem whole_read8 (f : (cc0_scratch8 : Ref sig .tc).ty.Contents (Elt F)) :
    View.readAt (Elt F) (Memref.whole cc0_scratch8).view (Rect.unit (s := S256x512) ![0, 0] ![256, 512] inb_S256x512_S256x512_0_0).toLoadRect f = f :=
  Memref.readAt_unit_zero (Elt F) cc0_scratch8 (funext fun a => by fin_cases a <;> rfl) _ f
theorem whole_read5 (f : (cc0_scratch5 : Ref sig .tc).ty.Contents (Elt F)) :
    View.readAt (Elt F) (Memref.whole cc0_scratch5).view (Rect.unit (s := S512x256) ![0, 0] ![512, 256] inb_S512x256_S512x256_0_0).toLoadRect f = f :=
  Memref.readAt_unit_zero (Elt F) cc0_scratch5 (funext fun a => by fin_cases a <;> rfl) _ f

theorem wp_part7 (c : Dev nD) {α : Type} {Q : α → sProp 𝕄}
    {k : (Σ' (v100 : FVec F S128x256 .f32) (v104 : FVec F S128x256 .f32), IVec S128x128 32) → Prog (TpuEff nD τ sig (Elt F) Λ₀ .tc) α} :
    iprop(levAts L lv ∗ owing c (Owed c ∅ ∅ ∅) ∗ flight2 m c ∗ flight3 m c)
      ⊢ iprop(((owing c (Owed c ∅ ∅ ∅) ∗ (orig m c main_arg0 ∗ orig m c main_arg1) ∗ (anyAt c cc0_scratch4 ∗ anyAt c cc0_scratch5) ∗ (semVal (locCell c 2) 0 ∗ semVal (locCell c 3) 0))
            -∗ wp frame (wpE (defs₀ (F := F)) 𝒱₀ (c : Thread nD τ) none) Set.univ (k ⟨query0 m c, query1 m c, k0_pay6⟩) Q)
        -∗ wp frame (wpE (defs₀ (F := F)) 𝒱₀ (c : Thread nD τ) none) Set.univ
          (k0_part7 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 >>= k) Q) := by
  rw [k0_part7_eq_skeleton]
  unfold k0_part7_skel
  simp only [semSignalWord, semWaitWord, Prog.lift, Prog.bind_op, Prog.bind_ret, Prog.pure_eq_ret]
  unfold flight2 flight3 flight orig anyAt query0 query1
  iintro ⟨#Hl, HO, F2, F3⟩ Hk
  iapply (wp_locWait c 2 ∅ ∅ _ rfl _ _ rfl) $$ [HO F2]
  · isplitr; · iexact Hl
    isplitl [HO] <;> iassumption
  iintro ⟨HO, V2, X4, A0⟩
  iapply (wp_locWait c 3 ∅ ∅ _ rfl _ _ rfl) $$ [HO F3]
  · isplitr; · iexact Hl
    isplitl [HO] <;> iassumption
  iintro ⟨HO, V3, X5, A1⟩
  iapply (wp_load 𝒱₀ (c : Thread nD τ) none Set.univ (m := Memref.whole cc0_scratch5) (Finset.subset_univ _)) $$ [X5]
  · iexact X5
  iintro X5
  rw [whole_read5 (m ((c : Thread nD τ).loc main_arg1))]
  iapply (wp_load 𝒱₀ (c : Thread nD τ) none Set.univ (m := xM) (r := rect0.toLoadRect) (Finset.subset_univ _)) $$ [X4]
  · iexact X4
  iintro X4
  iapply (wp_load 𝒱₀ (c : Thread nD τ) none Set.univ (m := xM) (r := rect1.toLoadRect) (Finset.subset_univ _)) $$ [X4]
  · iexact X4
  iintro X4
  iapply Hk
  isplitl [HO]; · iexact HO
  isplitl [A0 A1]; · isplitl [A0] <;> iassumption
  isplitl [X4 X5]
  · isplitl [X4] <;> (iexists _; iassumption)
  isplitl [V2] <;> iassumption

theorem wp_part4 (K : Dev nD × Fin 13 → ℕ) (c : Dev nD) {α : Type} {Q : α → sProp 𝕄}
    {k : (Σ' (d0 : Dev nD) (v2 : BitVec 32) (v3 : Sems sig S_) (v30 : BitVec 32) (c4_i32_18 : BitVec 32), BitVec 1) → Prog (TpuEff nD τ sig (Elt F) Λ₀ .tc) α} :
    iprop(records m K ∗ owing c (Owed c (above c) (below c) (Finset.univ.erase c)) ∗ (bigSep (Finset.univ.erase c) fun i => dutyTok ER (barCell i) 0 c))
      ⊢ iprop((∀ v30 c4 v31, (owing c (Owed c (above c) (below c) {c + 3}) ∗ dutyTok ER (barCell (c + 3)) 0 c)
            -∗ wp frame (wpE (defs₀ (F := F)) 𝒱₀ (c : Thread nD τ) none) Set.univ (k ⟨c, BitVec.ofNat 32 c.val, SemArray.scalar (sig.barrier 0 rfl), v30, c4, v31⟩) Q)
        -∗ wp frame (wpE (defs₀ (F := F)) 𝒱₀ (c : Thread nD τ) none) Set.univ
          (k0_part4 (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 >>= k) Q) := by
  rw [k0_part4_eq_skeleton]
  unfold k0_part4_skel
  simp only [semSignalWord, semWaitWord, Prog.lift, Prog.bind_op, Prog.bind_ret, Prog.pure_eq_ret, wp_deviceId]
  iintro ⟨#Hr, HO, Tb⟩ Hk
  icases (bigSep_take (c + 1) (mem1 c)) $$ Tb with ⟨Tb1, Tb⟩
  iapply (wp_barSig m K c (c + 1) _ (show (⟨k0_dev1 c, k0_dev1_lt c⟩ : Dev nD) = c + 1 from Fin.ext (dev1_eq c)) (plus1_ne c) _ rfl (above c) (below c) (Finset.univ.erase c) (mem1 c)) $$ [HO Tb1]
  · isplitr; · iexact Hr
    isplitl [HO] <;> iassumption
  iintro HO
  icases (bigSep_take (c + 2) (mem2 c)) $$ Tb with ⟨Tb1, Tb⟩
  iapply (wp_barSig m K c (c + 2) _ (show (⟨k0_dev2 c, k0_dev2_lt c⟩ : Dev nD) = c + 2 from Fin.ext (dev2_eq c)) (plus2_ne c) _ rfl (above c) (below c) ((Finset.univ.erase c).erase (c + 1)) (mem2 c)) $$ [HO Tb1]
  · isplitr; · iexact Hr
    isplitl [HO] <;> iassumption
  iintro HO
  rw [others c]
  icases (bigSep_take (c + 3) (Finset.mem_singleton_self (c + 3))) $$ Tb with ⟨Tb1, -⟩
  rw [devWord]
  iapply Hk
  isplitl [HO] <;> iassumption

theorem not_past : ∀ c : Dev nD, ¬ (3 : Dev nD) < c := by decide
theorem last_slot (c : Dev nD) (g : KVBuf F) : awaited m g c 3 ⊢ iprop(doneAt m (rcvCell c 3) ∗ held m g c 3) := by
  unfold awaited; rw [if_neg (not_past c)]

theorem dite_bind {P : Prop} [Decidable P] {β γ : Type} (t : P → Prog (TpuEff nD τ sig (Elt F) Λ₀ .tc) β) (e : ¬P → Prog (TpuEff nD τ sig (Elt F) Λ₀ .tc) β)
    (k : β → Prog (TpuEff nD τ sig (Elt F) Λ₀ .tc) γ) : dite P t e >>= k = dite P (fun h => t h >>= k) (fun h => e h >>= k) := by split <;> rfl

theorem sees0 : ∀ c : Dev nD, Iff (Scalar.cmpi .ne (Scalar.extui (Scalar.cmpi .sgt (BitVec.ofNat 32 c.val) 0#32)) 0#32 = 1#1) ((0 : Dev nD) < c) := by decide
theorem sees1 : ∀ c : Dev nD, Iff (Scalar.cmpi .ne (Scalar.extui (Scalar.cmpi .sgt (BitVec.ofNat 32 c.val) 1#32)) 0#32 = 1#1) ((1 : Dev nD) < c) := by decide
theorem sees2 : ∀ c : Dev nD, Iff (Scalar.cmpi .ne (Scalar.extui (Scalar.cmpi .sgt (BitVec.ofNat 32 c.val) 2#32)) 0#32 = 1#1) ((2 : Dev nD) < c) := by decide

theorem above_0 (Φ : Fin 4 → sProp 𝕄) : bigSep (above 0) Φ = iprop(Φ 1 ∗ Φ 2 ∗ Φ 3) := bigSep_eq_bigSepL_of_eq [1, 2, 3] (by decide) (by decide) Φ
theorem above_1 (Φ : Fin 4 → sProp 𝕄) : bigSep (above 1) Φ = iprop(Φ 2 ∗ Φ 3) := bigSep_eq_bigSepL_of_eq [2, 3] (by decide) (by decide) Φ
theorem above_2 (Φ : Fin 4 → sProp 𝕄) : bigSep (above 2) Φ = Φ 3 := bigSep_eq_bigSepL_of_eq [3] (by decide) (by decide) Φ
theorem above_3 : above 3 = ∅ := by decide

theorem some_slots (S : Finset (Fin 4)) (c : Dev nD) (f : KVBuf F) :
    (bigSep S fun n => (slotPts fullShare c n f : sProp 𝕄)) ⊢ bigSep S fun n => iprop(∃ f, slotPts fullShare c n f) :=
  bigSep_mono fun n _ => exists_intro (Φ := fun f => slotPts fullShare c n f) f

theorem open_0 (Φ : Fin 4 → sProp 𝕄) : bigSep (above 0) Φ ⊢ iprop(Φ 1 ∗ Φ 2 ∗ Φ 3) := Entails.of_eq (above_0 Φ)
theorem close_0 (Φ : Fin 4 → sProp 𝕄) : iprop(Φ 1 ∗ Φ 2 ∗ Φ 3) ⊢ bigSep (above 0) Φ := Entails.of_eq (above_0 Φ).symm
theorem open_1 (Φ : Fin 4 → sProp 𝕄) : bigSep (above 1) Φ ⊢ iprop(Φ 2 ∗ Φ 3) := Entails.of_eq (above_1 Φ)
theorem close_1 (Φ : Fin 4 → sProp 𝕄) : iprop(Φ 2 ∗ Φ 3) ⊢ bigSep (above 1) Φ := Entails.of_eq (above_1 Φ).symm
theorem open_2 (Φ : Fin 4 → sProp 𝕄) : bigSep (above 2) Φ ⊢ Φ 3 := Entails.of_eq (above_2 Φ)
theorem close_2 (Φ : Fin 4 → sProp 𝕄) : Φ 3 ⊢ bigSep (above 2) Φ := Entails.of_eq (above_2 Φ).symm
theorem close_3 (Φ : Fin 4 → sProp 𝕄) : (emp : sProp 𝕄) ⊢ bigSep (above 3) Φ := by rw [above_3]; exact Entails.of_eq bigSep_empty.symm

theorem sent (c : Dev nD) : (bigSep (above c) fun d => sendPost m c d)
    ⊢ iprop((bigSep (above c) fun d => cred (tallyAt (sndCell c d) () N)) ∗ bigSep (above c) fun d => doneAt m (crdCell c d)) :=
  apart (above c) (fun d => cred (tallyAt (sndCell c d) () N)) fun d => doneAt m (crdCell c d)

/-- What is left once the device's sends are taken. -/
theorem finish (c : Dev nD) (f : KVBuf F) (fo : (cc0_stg0_0 : Ref sig .tc).ty.Contents (Elt F)) (W : sProp 𝕄) :
    iprop((doneAt m (barCell c) ∗ (bigSep (below c) fun i => doneAt m (crdCell c i)) ∗ doneAt m (crdCell c c) ∗ bigSep (above c) fun i => doneAt m (crdCell c i))
        ∗ ((bigSep (below c) fun i => doneAt m (sndCell c i)) ∗ doneAt m (sndCell c c))
        ∗ (doneAt m (rcvCell c 0) ∗ doneAt m (rcvCell c 1) ∗ doneAt m (rcvCell c 2) ∗ doneAt m (rcvCell c 3))
        ∗ (held m f c 0 ∗ held m f c 1 ∗ held m f c 2 ∗ held m f c 3) ∗ (bigSep (rest c) fun d => slotPts (lendShare d.val) c c (KV m))
        ∗ (semVal (locCell c 0) 0 ∗ semVal (locCell c 1) 0 ∗ semVal (locCell c 2) 0 ∗ semVal (locCell c 3) 0 ∗ semVal (locCell c 4) 0)
        ∗ (orig m c main_arg0 ∗ orig m c main_arg1 ∗ orig m c main_arg2 ∗ orig m c main_arg3 ∗ orig m c main_arg4)
        ∗ (anyAt c cc0_scratch4 ∗ anyAt c cc0_scratch5 ∗ anyAt c cc0_scratch6 ∗ anyAt c cc0_scratch7 ∗ anyAt c cc0_scratch8)
        ∗ (((c : Thread nD τ).loc cc0_stg0_0) ↦{fullShare} outOver m c (seen m f c) fo)
        ∗ ((left m c ∗ owing c 0 ∗ (((c : Thread nD τ).loc cc0_stg0_0) ↦{fullShare} outC m c)) -∗ W))
      ⊢ iprop((owing c (Owed c ∅ ∅ ∅) ∗ (bigSep (above c) fun d => doneAt m (sndCell c d)) ∗ bigSep (above c) fun d => slotPts (lendShare d.val) c c (KV m)) -∗ W) := by
  rw [outOver_eq, Owed_empty]
  unfold left
  iintro ⟨⟨Db, C0, C1, C2⟩, ⟨T0, T1⟩, HE, HW, Sl, HV, HA, HX, HS, Hk⟩ ⟨HO, T2, S2⟩
  iapply Hk
  isplitr [HO HS]
  · isplitl [Db C0 C1 C2 T0 T1 T2 HE]
    · isplitl [Db]; · iexact Db
      isplitl [C0 C1 C2]
      · iapply (unsplit c fun i => doneAt m (crdCell c i))
        isplitl [C0]; · iexact C0
        isplitl [C1] <;> iassumption
      isplitl [T0 T1 T2]
      · iapply (unsplit c fun i => doneAt m (sndCell c i))
        isplitl [T0]; · iexact T0
        isplitl [T1] <;> iassumption
      iapply (unfour fun i => doneAt m (rcvCell c i)); iexact HE
    isplitl [HV]; · iexact HV
    isplitl [HA]; · iexact HA
    isplitl [HX]; · iexact HX
    icases (held_all m c f) $$ HW with ⟨W0, W1, W2⟩
    ihave Sl := (unlend m c) $$ [S2 Sl]
    · isplitl [S2] <;> iassumption
    iapply (slots_join c f)
    iapply (unsplit c fun n => iprop(∃ f, slotPts fullShare c n f))
    isplitl [W0]; · iapply (some_slots (below c) c (KV m)); iexact W0
    isplitl [W1 Sl]
    · iexists _
      iapply (slot_lend c c (KV m)).2
      isplitl [W1] <;> iassumption
    iapply (some_slots (above c) c f); iexact W2
  isplitl [HO] <;> iassumption

set_option maxHeartbeats 1000000 in
theorem wp_body (K : Dev nD × Fin 13 → ℕ) (c : Dev nD) {α : Type} {Q : α → sProp 𝕄} {k : PUnit → Prog (TpuEff nD τ sig (Elt F) Λ₀ .tc) α} :
    iprop(given m K c ∗ owing c (O₀ c) ∗ ∃ f : (cc0_stg0_0 : Ref sig .tc).ty.Contents (Elt F), ((c : Thread nD τ).loc cc0_stg0_0) ↦{fullShare} f)
      ⊢ iprop(((left m c ∗ owing c 0 ∗ (((c : Thread nD τ).loc cc0_stg0_0) ↦{fullShare} outC m c))
            -∗ wp frame (wpE (defs₀ (F := F)) 𝒱₀ (c : Thread nD τ) none) Set.univ (k ⟨⟩) Q)
        -∗ wp frame (wpE (defs₀ (F := F)) 𝒱₀ (c : Thread nD τ) none) Set.univ
          (cc0_body (F := F) (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 >>= k) Q) := by
  unfold given left O₀
  iintro ⟨⟨#Hr, #Hl, ⟨Hcb, Hab⟩, Pc, Ps, Pr, Cc, Cr, Tb, Tc, Ts, Tr, HA, HX, HV, ⟨%f, HKV⟩⟩, HO, ⟨%fo, HS⟩⟩ Hk
  -- the counters nobody raises
  icases (split c _) $$ Pc with ⟨Pc0, Pc1, Pc⟩
  ihave Dc0 := (idle m c (below c) (fun i => .reg (crdS i)) fun i hi => idle_crd c i (le_of_lt (Finset.mem_filter.mp hi).2)) $$ Pc0
  ihave Dc1 := (doneAt_zero m c (.reg (crdS c)) (idle_crd c c (le_refl c))) $$ Pc1
  icases (split c _) $$ Ps with ⟨Ps0, Ps1, Ps⟩
  ihave Ds0 := (idle m c (below c) (fun i => .dma (sndS i)) fun i hi => idle_snd c i (le_of_lt (Finset.mem_filter.mp hi).2)) $$ Ps0
  ihave Ds1 := (doneAt_zero m c (.dma (sndS c)) (idle_snd c c (le_refl c))) $$ Ps1
  icases (split c _) $$ Pr with ⟨Pr, Pr1, Pr2⟩
  ihave Dr1 := (doneAt_zero m c (.dma (rcvS c)) (idle_rcv c c (le_refl c))) $$ Pr1
  ihave Dr2 := (idle m c (above c) (fun i => .dma (rcvS i)) fun i hi => idle_rcv c i (le_of_lt (Finset.mem_filter.mp hi).2)) $$ Pr2
  -- the slots
  icases (slots_split c f) $$ HKV with ⟨S0, S1, S2⟩
  -- the first two raises of the barrier
  rw [cc0_body_eq_skeleton]
  unfold cc0_body_skel
  simp only [bind_assoc]
  iapply (wp_part4 m K c) $$ [HO Tb]
  · isplitr; · iexact Hr
    isplitl [HO] <;> iassumption
  iintro %v30 %c4 %v31 ⟨HO, Tb1⟩
  dsimp only

  iapply (wp_part5 m K c f) $$ [HO Tb1 Hcb Hab HA HX HV Tc S0]
  · isplitr; · iexact Hr
    isplitr; · iexact Hl
    isplitl [HO]; · iexact HO
    isplitl [Tb1]; · iexact Tb1
    isplitl [Hcb]; · iexact Hcb
    isplitl [Hab]; · iexact Hab
    isplitl [HA]; · iexact HA
    isplitl [HX]; · iexact HX
    isplitl [HV]; · iexact HV
    isplitl [Tc] <;> iassumption
  iintro ⟨HO, Db, F0, F1, F2, F3, F4⟩
  ihave Cc := (both (above c) (fun d => cred (tallyAt (crdCell c d) () 1)) fun d => atPos ER (crdCell c d) 0 ∅ 0) $$ [Cc Pc]
  · isplitl [Cc] <;> iassumption
  iapply (wp_part6 m K c f) $$ [HO F0 F1 S1 Cc Ts Tr]
  · isplitr; · iexact Hr
    isplitr; · iexact Hl
    isplitl [HO]; · iexact HO
    isplitl [F0]; · iexact F0
    isplitl [F1]; · iexact F1
    isplitl [S1]; · iexact S1
    isplitl [Cc]; · iexact Cc
    isplitl [Ts] <;> iassumption
  iintro ⟨HO, ⟨A2, A3⟩, ⟨X6, X7⟩, ⟨V0, V1⟩, Sc, Sl, Sp⟩
  iapply (wp_part7 m c) $$ [HO F2 F3]
  · isplitr; · iexact Hl
    isplitl [HO]; · iexact HO
    isplitl [F2] <;> iassumption
  iintro ⟨HO, ⟨A0, A1⟩, ⟨X4, X5⟩, ⟨V2, V3⟩⟩
  ihave Cr := (both (below c) (fun s => cred (tallyAt (rcvCell c s) () N)) fun s => atPos ER (rcvCell c s) 0 ∅ 0) $$ [Cr Pr]
  · isplitl [Cr] <;> iassumption
  ihave S2 := (both (above c) (fun s => doneAt m (rcvCell c s)) fun s => slotPts fullShare c s f) $$ [Dr2 S2]
  · isplitl [Dr2] <;> iassumption
  icases (await_intro m c f) $$ [Cr Dr1 Sc S2] with ⟨W0, W1, W2, W3⟩
  · isplitl [Cr]; · iexact Cr
    isplitr [S2]
    · isplitl [Dr1] <;> iassumption
    iexact S2
  rw [k0_part8_eq_skeleton]
  unfold k0_part8_skel
  simp only [Prog.pure_eq_ret, Prog.bind_ret]
  rw [k0_part9_eq_skeleton]
  unfold k0_part9_skel
  simp only [Prog.lift, Prog.bind_op, Prog.bind_ret, Prog.pure_eq_ret, dite_bind]
  iapply (wp_recvIf m K f c 0 (srcw := slotM 0) (dstw := slotM 0) (sees0 c) _ rfl (fun _ => rfl) (fun _ => rfl) rfl) $$ [HO W0]
  · isplitr; · iexact Hr
    isplitl [HO] <;> iassumption
  iintro ⟨HO, E0, W0⟩
  iterate 2 (iapply (wp_heldHead m f c 0 rfl) $$ W0; iintro W0)
  rw [k0_part10_eq_skeleton]
  unfold k0_part10_skel
  simp only [Prog.lift, Prog.bind_op, Prog.bind_ret, Prog.pure_eq_ret]
  iterate 4 (iapply (wp_heldHead m f c 0 rfl) $$ W0; iintro W0)
  rw [k0_part11_eq_skeleton]
  unfold k0_part11_skel
  simp only [Prog.lift, Prog.bind_op, Prog.bind_ret, Prog.pure_eq_ret]
  iterate 4 (iapply (wp_heldHead m f c 0 rfl) $$ W0; iintro W0)
  rw [k0_part12_eq_skeleton]
  unfold k0_part12_skel
  simp only [Prog.lift, Prog.bind_op, Prog.bind_ret, Prog.pure_eq_ret]
  iterate 2 (iapply (wp_heldHead m f c 0 rfl) $$ W0; iintro W0)
  rw [k0_part13_eq_skeleton]
  unfold k0_part13_skel
  simp only [Prog.lift, Prog.bind_op, Prog.bind_ret, Prog.pure_eq_ret]
  iterate 4 (iapply (wp_heldHead m f c 0 rfl) $$ W0; iintro W0)
  rw [k0_part14_eq_skeleton]
  unfold k0_part14_skel
  simp only [Prog.lift, Prog.bind_op, Prog.bind_ret, Prog.pure_eq_ret, dite_bind]
  iapply (wp_recvIf m K f c 1 (srcw := slotM 1) (dstw := slotM 1) (sees1 c) _ rfl (fun _ => rfl) (fun _ => rfl) rfl) $$ [HO W1]
  · isplitr; · iexact Hr
    isplitl [HO] <;> iassumption
  iintro ⟨HO, E1, W1⟩
  iterate 2 (iapply (wp_heldHead m f c 1 rfl) $$ W1; iintro W1)
  rw [k0_part15_eq_skeleton]
  unfold k0_part15_skel
  simp only [Prog.lift, Prog.bind_op, Prog.bind_ret, Prog.pure_eq_ret]
  iterate 4 (iapply (wp_heldHead m f c 1 rfl) $$ W1; iintro W1)
  rw [k0_part16_eq_skeleton]
  unfold k0_part16_skel
  simp only [Prog.lift, Prog.bind_op, Prog.bind_ret, Prog.pure_eq_ret]
  iterate 3 (iapply (wp_heldHead m f c 1 rfl) $$ W1; iintro W1)
  rw [k0_part17_eq_skeleton]
  unfold k0_part17_skel
  simp only [Prog.lift, Prog.bind_op, Prog.bind_ret, Prog.pure_eq_ret]
  iterate 3 (iapply (wp_heldHead m f c 1 rfl) $$ W1; iintro W1)
  rw [k0_part18_eq_skeleton]
  unfold k0_part18_skel
  simp only [Prog.lift, Prog.bind_op, Prog.bind_ret, Prog.pure_eq_ret]
  iterate 4 (iapply (wp_heldHead m f c 1 rfl) $$ W1; iintro W1)
  rw [k0_part19_eq_skeleton]
  unfold k0_part19_skel
  simp only [Prog.lift, Prog.bind_op, Prog.bind_ret, Prog.pure_eq_ret, dite_bind]
  iapply (wp_recvIf m K f c 2 (srcw := slotM 2) (dstw := slotM 2) (sees2 c) _ rfl (fun _ => rfl) (fun _ => rfl) rfl) $$ [HO W2]
  · isplitr; · iexact Hr
    isplitl [HO] <;> iassumption
  iintro ⟨HO, E2, W2⟩
  iterate 2 (iapply (wp_heldHead m f c 2 rfl) $$ W2; iintro W2)
  rw [k0_part20_eq_skeleton]
  unfold k0_part20_skel
  simp only [Prog.lift, Prog.bind_op, Prog.bind_ret, Prog.pure_eq_ret]
  iterate 4 (iapply (wp_heldHead m f c 2 rfl) $$ W2; iintro W2)
  rw [k0_part21_eq_skeleton]
  unfold k0_part21_skel
  simp only [Prog.lift, Prog.bind_op, Prog.bind_ret, Prog.pure_eq_ret]
  iterate 3 (iapply (wp_heldHead m f c 2 rfl) $$ W2; iintro W2)
  rw [k0_part22_eq_skeleton]
  unfold k0_part22_skel
  simp only [Prog.lift, Prog.bind_op, Prog.bind_ret, Prog.pure_eq_ret]
  iterate 3 (iapply (wp_heldHead m f c 2 rfl) $$ W2; iintro W2)
  rw [k0_part23_eq_skeleton]
  unfold k0_part23_skel
  simp only [Prog.lift, Prog.bind_op, Prog.bind_ret, Prog.pure_eq_ret]
  iterate 4 (iapply (wp_heldHead m f c 2 rfl) $$ W2; iintro W2)
  icases (last_slot m c f) $$ W3 with ⟨E3, W3⟩
  rw [k0_part24_eq_skeleton]
  unfold k0_part24_skel
  simp only [Prog.lift, Prog.bind_op, Prog.bind_ret, Prog.pure_eq_ret]
  iterate 2 (iapply (wp_heldHead m f c 3 rfl) $$ W3; iintro W3)
  rw [k0_part25_eq_skeleton]
  unfold k0_part25_skel
  simp only [Prog.lift, Prog.bind_op, Prog.bind_ret, Prog.pure_eq_ret]
  iterate 4 (iapply (wp_heldHead m f c 3 rfl) $$ W3; iintro W3)
  rw [k0_part26_eq_skeleton]
  unfold k0_part26_skel
  simp only [Prog.lift, Prog.bind_op, Prog.bind_ret, Prog.pure_eq_ret]
  iterate 3 (iapply (wp_heldHead m f c 3 rfl) $$ W3; iintro W3)
  rw [k0_part27_eq_skeleton]
  unfold k0_part27_skel
  simp only [Prog.lift, Prog.bind_op, Prog.bind_ret, Prog.pure_eq_ret]
  iterate 3 (iapply (wp_heldHead m f c 3 rfl) $$ W3; iintro W3)
  rw [k0_part28_eq_skeleton]
  unfold k0_part28_skel
  simp only [Prog.lift, Prog.bind_op, Prog.bind_ret, Prog.pure_eq_ret]
  iterate 4 (iapply (wp_heldHead m f c 3 rfl) $$ W3; iintro W3)
  rw [k0_part29_eq_skeleton]
  unfold k0_part29_skel flight4 flight
  simp only [Prog.lift, Prog.bind_op, Prog.bind_ret, Prog.pure_eq_ret]
  iapply (wp_locWait c 4 ∅ ∅ _ rfl _ _ rfl) $$ [HO F4]
  · isplitr; · iexact Hl
    isplitl [HO] <;> iassumption
  iintro ⟨HO, V4, X8, A4⟩
  iapply (wp_load 𝒱₀ (c : Thread nD τ) none Set.univ (m := Memref.whole cc0_scratch8) (Finset.subset_univ _)) $$ [X8]
  · iexact X8
  iintro X8
  rw [whole_read8 (m ((c : Thread nD τ).loc main_arg4))]
  iapply (wp_load 𝒱₀ (c : Thread nD τ) none Set.univ (m := outM) (r := rect0.toLoadRect) (Finset.subset_univ _)) $$ [HS]
  · iexact HS
  iintro HS
  iapply (wp_store 𝒱₀ (c : Thread nD τ) none Set.univ (m := outM) (r := rect0) (w := rowO (BitVec.ofNat 32 c.val) (query0 m c) (seen m f c) 0 (m ((c : Thread nD τ).loc main_arg4))) (Finset.subset_univ _)) $$ [HS]
  · iexact HS
  iintro HS
  iapply (wp_load 𝒱₀ (c : Thread nD τ) none Set.univ (m := outM) (r := rect1.toLoadRect) (Finset.subset_univ _)) $$ [HS]
  · iexact HS
  iintro HS
  iapply (wp_store 𝒱₀ (c : Thread nD τ) none Set.univ (m := outM) (r := rect1) (w := rowO (BitVec.ofNat 32 c.val) (query1 m c) (seen m f c) 1 (m ((c : Thread nD τ).loc main_arg4))) (Finset.subset_univ _)) $$ [HS]
  · iexact HS
  iintro HS
  icases (sent m c) $$ Sp with ⟨Cs, C2⟩
  ihave Hk := (finish m c f fo _) $$ [Db Dc0 Dc1 C2 Ds0 Ds1 E0 E1 E2 E3 W0 W1 W2 W3 Sl V0 V1 V2 V3 V4 A0 A1 A2 A3 A4 X4 X5 X6 X7 X8 HS Hk]
  · isplitl [Db Dc0 Dc1 C2]
    · isplitl [Db]; · iexact Db
      isplitl [Dc0]; · iexact Dc0
      isplitl [Dc1] <;> iassumption
    isplitl [Ds0 Ds1]
    · isplitl [Ds0] <;> iassumption
    isplitl [E0 E1 E2 E3]
    · isplitl [E0]; · iexact E0
      isplitl [E1]; · iexact E1
      isplitl [E2] <;> iassumption
    isplitl [W0 W1 W2 W3]
    · isplitl [W0]; · iexact W0
      isplitl [W1]; · iexact W1
      isplitl [W2] <;> iassumption
    isplitl [Sl]; · iexact Sl
    isplitl [V0 V1 V2 V3 V4]
    · isplitl [V0]; · iexact V0
      isplitl [V1]; · iexact V1
      isplitl [V2]; · iexact V2
      isplitl [V3] <;> iassumption
    isplitl [A0 A1 A2 A3 A4]
    · isplitl [A0]; · iexact A0
      isplitl [A1]; · iexact A1
      isplitl [A2]; · iexact A2
      isplitl [A3]; · iexact A3
      unfold orig; iexact A4
    isplitl [X4 X5 X6 X7 X8]
    · isplitl [X4]; · iexact X4
      isplitl [X5]; · iexact X5
      isplitl [X6]; · iexact X6
      isplitl [X7]; · iexact X7
      unfold anyAt; iexists _; iexact X8
    isplitl [HS]; · iexact HS
    iexact Hk
  rcases dev_cases c with rfl | rfl | rfl | rfl
  · icases (open_0 _) $$ Cs with ⟨C1, C2, C3⟩
    icases (open_0 _) $$ Ps with ⟨P1, P2, P3⟩
    rw [dif_pos (by decide), k0_part3_eq_skeleton]
    unfold k0_part3_skel
    simp only [Prog.lift, Prog.bind_op, Prog.bind_ret, Prog.pure_eq_ret, dite_bind]
    iapply (wp_sndWait m K 0 1 (srcw := slotM 0) (dstw := slotM 0) (by decide) _ rfl rfl) $$ [HO C1 P1]
    · isplitr; · iexact Hr
      isplitl [HO]; · iexact HO
      isplitl [C1] <;> iassumption
    iintro ⟨HO, D1, L1⟩
    iapply (wp_sndWait m K 0 3 (srcw := slotM 0) (dstw := slotM 0) (by decide) _ rfl rfl) $$ [HO C3 P3]
    · isplitr; · iexact Hr
      isplitl [HO]; · iexact HO
      isplitl [C3] <;> iassumption
    iintro ⟨HO, D3, L3⟩
    iapply (wp_sndWait m K 0 2 (srcw := slotM 0) (dstw := slotM 0) (by decide) _ rfl rfl) $$ [HO C2 P2]
    · isplitr; · iexact Hr
      isplitl [HO]; · iexact HO
      isplitl [C2] <;> iassumption
    iintro ⟨HO, D2, L2⟩
    rw [dif_neg (by decide), dif_neg (by decide)]
    iapply Hk
    isplitl [HO]; · iexact HO
    isplitl [D1 D2 D3]
    · iapply (close_0 fun d => doneAt m (sndCell 0 d))
      isplitl [D1]; · iexact D1
      isplitl [D2] <;> iassumption
    iapply (close_0 fun d => slotPts (lendShare d.val) 0 0 (KV m))
    isplitl [L1]; · iexact L1
    isplitl [L2] <;> iassumption
  · icases (open_1 _) $$ Cs with ⟨C2, C3⟩
    icases (open_1 _) $$ Ps with ⟨P2, P3⟩
    rw [dif_neg (by decide), dif_pos (by decide)]
    iapply (wp_sndWait m K 1 2 (srcw := slotM 1) (dstw := slotM 1) (by decide) _ rfl rfl) $$ [HO C2 P2]
    · isplitr; · iexact Hr
      isplitl [HO]; · iexact HO
      isplitl [C2] <;> iassumption
    iintro ⟨HO, D2, L2⟩
    iapply (wp_sndWait m K 1 3 (srcw := slotM 1) (dstw := slotM 1) (by decide) _ rfl rfl) $$ [HO C3 P3]
    · isplitr; · iexact Hr
      isplitl [HO]; · iexact HO
      isplitl [C3] <;> iassumption
    iintro ⟨HO, D3, L3⟩
    rw [dif_neg (by decide)]
    iapply Hk
    isplitl [HO]; · iexact HO
    isplitl [D2 D3]
    · iapply (close_1 fun d => doneAt m (sndCell 1 d))
      isplitl [D2] <;> iassumption
    iapply (close_1 fun d => slotPts (lendShare d.val) 1 1 (KV m))
    isplitl [L2] <;> iassumption
  · ihave C3 := (open_2 _) $$ Cs
    ihave P3 := (open_2 _) $$ Ps
    rw [dif_neg (by decide), dif_neg (by decide), dif_pos (by decide)]
    iapply (wp_sndWait m K 2 3 (srcw := slotM 2) (dstw := slotM 2) (by decide) _ rfl rfl) $$ [HO C3 P3]
    · isplitr; · iexact Hr
      isplitl [HO]; · iexact HO
      isplitl [C3] <;> iassumption
    iintro ⟨HO, D3, L3⟩
    iapply Hk
    isplitl [HO]; · iexact HO
    isplitl [D3]
    · iapply (close_2 fun d => doneAt m (sndCell 2 d))
      iexact D3
    iapply (close_2 fun d => slotPts (lendShare d.val) 2 2 (KV m))
    iexact L3
  · simp only [Prog.lift, Prog.bind_op, Prog.bind_ret, Prog.pure_eq_ret, dite_bind]
    rw [dif_neg (by decide), dif_neg (by decide), dif_neg (by decide)]
    iapply Hk
    isplitl [HO]; · iexact HO
    isplitl []
    · iapply (close_3 fun d => doneAt m (sndCell 3 d)); iempintro
    iapply (close_3 fun d => slotPts (lendShare d.val) 3 3 (KV m)); iempintro

end Cert.KernelIdealProof

end
-- ==== Proof.KernelIdealLaunch.lean ====
/-
The launch: what each device starts with, and the run of the whole mesh. Every device ends with its result array at
`outC`, its arguments as they were, and every counter at zero.
-/
module

public import proofs.«01_k».proof.Proof.KernelIdealBody
public import proofs.«01_k».proof.Proof.Gen.KernelIdeal.Launch
public import Idealize.ShloMosaic.Lib.Quiescent
public import Idealize.ShloMosaic.Lib.Pipeline.CollectiveSegs

@[expose] public section

noncomputable section

namespace Cert.KernelIdealProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ)

/-! ## The counters, by kind -/

abbrev Kinds : Type := Fin 4 ⊕ Fin 4 ⊕ Fin 4 ⊕ Unit
def kindOf : Kinds → Fin 13 := Sum.elim kCrd (Sum.elim kSnd (Sum.elim kRcv fun _ => kBar))
def kinds : Kinds ≃ Fin 13 := Equiv.ofBijective kindOf (by decide)

theorem bigSep_unit (Φ : Unit → sProp 𝕄) : bigSep Finset.univ Φ = Φ () := bigSep_univ_eq_bigSepL [()] (by decide) (by decide) Φ

/-- A statement of all thirteen counters of a device: of the ready, the send, the receive and the barrier counters. -/
theorem by_kind (Φ : Fin 13 → sProp 𝕄) : bigSep Finset.univ Φ
    = iprop((bigSep Finset.univ fun i => Φ (kCrd i)) ∗ (bigSep Finset.univ fun i => Φ (kSnd i)) ∗ (bigSep Finset.univ fun i => Φ (kRcv i)) ∗ Φ kBar) := by
  rw [bigSep_univ_equiv kinds, bigSep_univ_sum, bigSep_univ_sum, bigSep_univ_sum, bigSep_unit]; rfl

theorem at_kind (Φ : GSem nD τ sig → sProp 𝕄) (c : Dev nD) : (bigSep Finset.univ fun k => Φ (kcell (c, k)))
    = iprop((bigSep Finset.univ fun i => Φ (crdCell c i)) ∗ (bigSep Finset.univ fun i => Φ (sndCell c i)) ∗ (bigSep Finset.univ fun i => Φ (rcvCell c i)) ∗ Φ (barCell c)) := by
  rw [by_kind]; unfold kcell; simp only [csem_crd, csem_snd, csem_rcv, csem_bar]

/-- The counters that belong to the kernel alone: all but the barrier's. -/
def osem : Fin 4 ⊕ Fin 4 ⊕ Fin 4 ⊕ Fin 5 → SemLoc sig :=
  Sum.elim (fun i => .reg (crdS i)) (Sum.elim (fun i => .dma (sndS i)) (Sum.elim (fun i => .dma (rcvS i)) fun j => .dma (locS j)))
theorem ownSemFacts : Pipeline.OwnSemFacts cfg0.spec osem := by decide

/-- The counters of the local copies at zero. -/
def locals (c : Dev nD) : sProp 𝕄 := iprop(semVal (locCell c 0) 0 ∗ semVal (locCell c 1) 0 ∗ semVal (locCell c 2) 0 ∗ semVal (locCell c 3) 0 ∗ semVal (locCell c 4) 0)

theorem bigSep_five (Φ : Fin 5 → sProp 𝕄) : bigSep Finset.univ Φ = iprop(Φ 0 ∗ Φ 1 ∗ Φ 2 ∗ Φ 3 ∗ Φ 4) := bigSep_univ_eq_bigSepL [0, 1, 2, 3, 4] (by decide) (by decide) Φ

theorem ownSems0_eq (c : Dev nD) : (Pipeline.ownSems0 (Ix := Unit) (Name := ℕ) (U := UU) (Lvl := ℕ) (Val := Elt F) (τ := τ) osem c : sProp 𝕄)
    = iprop((bigSep Finset.univ fun i => semVal (crdCell c i) 0) ∗ (bigSep Finset.univ fun i => semVal (sndCell c i) 0) ∗ (bigSep Finset.univ fun i => semVal (rcvCell c i) 0) ∗ locals c) := by
  unfold Pipeline.ownSems0
  rw [bigSep_univ_sum, bigSep_univ_sum, bigSep_univ_sum, bigSep_five]; rfl

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own counters and the barrier's, at zero: the thirteen counters of the protocol, and the local ones. -/
theorem sems_eq (c : Dev nD) :
    iprop(Pipeline.ownSems0 (Ix := Unit) (Name := ℕ) (U := UU) (Lvl := ℕ) (Val := Elt F) (τ := τ) osem c ∗ unscopedSems0 c)
      ⊢ (iprop((bigSep Finset.univ fun k => semVal (kcell (c, k)) 0) ∗ locals c) : sProp 𝕄) := by
  rw [ownSems0_eq, unscopedSems0_eq, at_kind fun g => semVal g 0]
  iintro ⟨⟨H1, H2, H3, H4⟩, HB⟩
  isplitr [H4]
  · isplitl [H1]; · iexact H1
    isplitl [H2]; · iexact H2
    isplitl [H3] <;> iassumption
  iexact H4

theorem sems_back (c : Dev nD) : (iprop((bigSep Finset.univ fun k => semVal (kcell (c, k)) 0) ∗ locals c) : sProp 𝕄)
      ⊢ iprop(unscopedSems0 c ∗ Pipeline.ownSems0 (Ix := Unit) (Name := ℕ) (U := UU) (Lvl := ℕ) (Val := Elt F) (τ := τ) osem c) := by
  rw [ownSems0_eq, unscopedSems0_eq, at_kind fun g => semVal g 0]
  iintro ⟨⟨H1, H2, H3, HB⟩, H4⟩
  isplitl [HB]; · iexact HB
  isplitl [H1]; · iexact H1
  isplitl [H2]; · iexact H2
  isplitl [H3] <;> iassumption

/-! ## The launch's ghost state -/

theorem csem_injective : Function.Injective csem := by decide
theorem kcell_injective : Function.Injective (kcell : Dev nD × Fin 13 → GSem nD τ sig) := fun a b h =>
  Prod.ext (congrArg (fun g : GSem nD τ sig => g.1.1) h) (csem_injective (congrArg Prod.snd h))
def meshCells : Finset (GSem nD τ sig) := Finset.univ.map ⟨kcell, kcell_injective⟩

/-- The counter and the payer of device `o`'s duty of kind `j` with index `i`. -/
def dutyOf (o : Dev nD) (i j : Fin 4) : SemLoc sig × Fin 4 := match j with
  | 0 => (.reg barS, i) | 1 => (.reg (crdS i), i) | 2 => (.dma (rcvS i), i) | 3 => (.dma (sndS i), o)
theorem dutyOf_injective : ∀ (o : Dev nD) (i j i' j' : Fin 4), dutyOf o i j = dutyOf o i' j' → i = i' ∧ j = j' := by decide

def tokOf (x : Dev nD × Fin 4 × Fin 4) : GSem nD τ sig × ℕ × Fin 4 := (((x.1 : Thread nD τ), (dutyOf x.1 x.2.1 x.2.2).1), 0, (dutyOf x.1 x.2.1 x.2.2).2)
theorem tokOf_injective : Function.Injective tokOf := by
  rintro ⟨o, i, j⟩ ⟨o', i', j'⟩ h
  obtain rfl : o = o' := congrArg (fun x : GSem nD τ sig × ℕ × Fin 4 => x.1.1.1) h
  obtain ⟨rfl, rfl⟩ := dutyOf_injective o i j i' j' (congrArg (fun x : GSem nD τ sig × ℕ × Fin 4 => (x.1.2, x.2.2)) h)
  rfl
def meshToks : Finset (GSem nD τ sig × ℕ × Fin 4) := Finset.univ.map ⟨tokOf, tokOf_injective⟩

def u₀ : UU := (initOf (Pipeline.cells cfgs cellOf_inj) (Pipeline.launchToks cfgs cellOf_inj), (initOf meshCells meshToks, 1))

/-- The duties of index `i` on the counters of device `o`, and those that device `o` pays. -/
def tok (o i : Dev nD) : sProp 𝕄 :=
  iprop(dutyTok ER (barCell o) 0 i ∗ dutyTok ER (crdCell o i) 0 i ∗ dutyTok ER (rcvCell o i) 0 i ∗ dutyTok ER (sndCell o i) 0 o)
def payTok (c i : Dev nD) : sProp 𝕄 :=
  iprop(dutyTok ER (barCell i) 0 c ∗ dutyTok ER (crdCell i c) 0 c ∗ dutyTok ER (rcvCell i c) 0 c ∗ dutyTok ER (sndCell c i) 0 c)

/-- What the launch deals device `c`. -/
def G (c : Dev nD) : sProp 𝕄 :=
  iprop((bigSep Finset.univ fun k : Fin 13 => roundState ER (meshRd m) (kcell (c, k)) 0)
    ∗ (bigSep Finset.univ fun k : Fin 13 => atPos ER (kcell (c, k)) 0 ∅ 0) ∗ (bigSep Finset.univ fun k : Fin 13 => reached ER (kcell (c, k)) 0)
    ∗ bigSep Finset.univ (tok c))

/-- What remains with device `c` once all counters are set up. -/
def kept (c : Dev nD) : sProp 𝕄 := iprop((bigSep Finset.univ fun k : Fin 13 => atPos ER (kcell (c, k)) 0 ∅ 0) ∗ locals c ∗ bigSep Finset.univ (payTok c))
def G' (c : Dev nD) : sProp 𝕄 := iprop(∃ K, records m K ∗ kept c)

theorem fund_mesh : BI.own (ER (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : Fin 13 => Φ (kcell (c, k)) := by
    unfold meshCells; rw [bigSep_map, bigSep_univ_prod]; rfl
  have hT : bigSep meshToks (fun x => (dutyTok ER x.1 x.2.1 x.2.2 : sProp 𝕄)) = bigSep Finset.univ fun c : Dev nD => bigSep Finset.univ (tok c) := by
    unfold meshToks; rw [bigSep_map, bigSep_univ_prod]
    refine bigSep_congr fun c _ => ?_
    rw [bigSep_univ_prod]
    exact bigSep_congr fun i _ => by rw [bigSep_univ_eq_bigSepL [0, 1, 2, 3] (by decide) (by decide)]; rfl
  iintro HX
  imod (Rounds.fund ER (meshRd m) meshCells meshToks) $$ HX with ⟨Hst, Hr, Hat, Htok⟩
  imodintro
  ihave Hst' := (Entails.of_eq (hX fun g => roundState ER (meshRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [BI.bigSep_sep']
  isplitl [Hst']; · iexact Hst'
  isplitl [Hat']; · iexact Hat'
  isplitl [Hr'] <;> iassumption

/-- A device's counters, each under its invariant. -/
def invs (c : Dev nD) : sProp 𝕄 := bigSep Finset.univ fun k : Fin 13 => iprop(∃ κ : ℕ, cellInv ER (meshRd m) κ (kcell (c, k)))

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop(invs m c ∗ (bigSep Finset.univ fun k : Fin 13 => atPos ER (kcell (c, k)) 0 ∅ 0)
          ∗ (bigSep Finset.univ fun k : Fin 13 => reached ER (kcell (c, k)) 0) ∗ bigSep Finset.univ (tok c) ∗ locals c) := by
  unfold G
  iintro ⟨Hos, Hus, Hst, Hat, Hr, Htok⟩
  ihave Hv := (sems_eq (F := F) c) $$ [Hos Hus]
  · isplitl [Hos] <;> iassumption
  icases Hv with ⟨Hv, Hl⟩
  imod (show iprop((bigSep Finset.univ fun k : Fin 13 => semVal (kcell (c, k)) 0) ∗ bigSep Finset.univ fun k : Fin 13 => roundState ER (meshRd m) (kcell (c, k)) 0)
      ⊢ (|={Set.univ}=> invs m c : sProp 𝕄) from by
        rw [← BI.bigSep_sep']
        exact (bigSep_mono fun k _ => (Rounds.body_intro ER (meshRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Hr]; · iexact Hr
  isplitl [Htok] <;> iassumption

/-- Each duty goes from the device whose counter it raises to the device that pays it. -/
theorem toks_paid : (bigSep Finset.univ fun c : Dev nD => bigSep Finset.univ (tok (F := F) c)) ⊢ bigSep Finset.univ fun c : Dev nD => bigSep Finset.univ (payTok (F := F) c) := by
  have swap (Φ : Dev nD → Fin 4 → sProp 𝕄) : (bigSep Finset.univ fun o => bigSep Finset.univ (Φ o)) = bigSep Finset.univ fun c => bigSep Finset.univ fun i => Φ i c :=
    (bigSep_univ_prod fun x : Dev nD × Fin 4 => Φ x.1 x.2).symm.trans
      ((bigSep_univ_equiv (Equiv.prodComm (Fin 4) (Dev nD)) fun x : Dev nD × Fin 4 => Φ x.1 x.2).trans (bigSep_univ_prod fun x : Fin 4 × Dev nD => Φ x.2 x.1))
  unfold tok payTok
  simp only [BI.bigSep_sep']
  rw [swap fun o i => dutyTok ER (barCell o) 0 i, swap fun o i => dutyTok ER (crdCell o i) 0 i, swap fun o i => dutyTok ER (rcvCell o i) 0 i]

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← BI.bigSep_sep']; exact bigSep_mono h)

theorem regroup :
    (bigSep Finset.univ fun c : Dev nD => iprop(invs m c ∗ (bigSep Finset.univ fun k : Fin 13 => atPos ER (kcell (c, k)) 0 ∅ 0)
          ∗ (bigSep Finset.univ fun k : Fin 13 => reached ER (kcell (c, k)) 0) ∗ bigSep Finset.univ (tok c) ∗ locals c) : sProp 𝕄)
      ⊢ bigSep Finset.univ (G' m) := by
  unfold invs
  rw [BI.bigSep_sep', BI.bigSep_sep', BI.bigSep_sep', BI.bigSep_sep', ← bigSep_univ_prod (fun ck : Dev nD × Fin 13 => iprop(∃ κ : ℕ, cellInv ER (meshRd m) κ (kcell ck))),
    ← bigSep_univ_prod (fun ck : Dev nD × Fin 13 => (reached ER (kcell ck) 0 : sProp 𝕄))]
  iintro ⟨HI, Hat, #HR, Htok, Hl⟩
  ihave HK := (BI.bigSep_exists_pi Finset.univ (fun (ck : Dev nD × Fin 13) (κ : ℕ) => (cellInv ER (meshRd m) κ (kcell ck) : sProp 𝕄))) $$ HI
  icases HK with ⟨%K, #HI⟩
  ihave Htk := (toks_paid (F := F)) $$ Htok
  iapply (bigSep_with_persistent (R := records m K) (Φ := kept) (Ψ := G' m) fun c _ => show iprop(records m K ∗ kept c) ⊢ G' m c from by
    unfold G'; iintro H; iexists K; iexact H)
  isplitr
  · unfold records; isplitl; · iexact HI
    iexact HR
  · unfold kept; simp only [BI.bigSep_sep']
    isplitl [Hat]; · iexact Hat
    isplitl [Hl] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

theorem some_of (S : Finset (Fin 4)) (Φ : Fin 4 → sProp 𝕄) : bigSep Finset.univ Φ ⊢ bigSep S Φ := bigSep_subset (Finset.subset_univ S)

/-! ## What the devices owe each counter at launch -/

theorem sum_tally (S : Finset (Fin 4)) (k : Fin 4 → GSem nD τ sig) (n : ℕ) (g : GSem nD τ sig) :
    (∑ d ∈ S, (tallyAt (k d) () n : CellTallies nD τ sig Unit)) g () = ∑ d ∈ S, if g = k d then n else 0 := by
  rw [Finset.sum_apply, Finsupp.finset_sum_apply]
  exact Finset.sum_congr rfl fun d _ => by rw [tallyAt_apply]; simp only [and_true]

theorem O₀_at (d : Dev nD) (g : GSem nD τ sig) : O₀ d g ()
    = (∑ e ∈ above d, if g = rcvCell e d then N else 0) + (∑ o ∈ below d, if g = crdCell o d then 1 else 0) + ∑ e ∈ Finset.univ.erase d, if g = barCell e then 1 else 0 := by
  rw [← sum_tally, ← sum_tally, ← sum_tally]; rfl

theorem rcv_inj : ∀ c s e d : Dev nD, rcvCell c s = rcvCell e d ↔ c = e ∧ s = d := by decide
theorem crd_inj : ∀ c s e d : Dev nD, crdCell c s = crdCell e d ↔ c = e ∧ s = d := by decide
theorem bar_inj : ∀ c e : Dev nD, barCell c = barCell e ↔ c = e := by decide
theorem rcv_ne_crd : ∀ c s e d : Dev nD, rcvCell c s ≠ crdCell e d := by decide
theorem rcv_ne_bar : ∀ c s e : Dev nD, rcvCell c s ≠ barCell e := by decide
theorem crd_ne_bar : ∀ c s e : Dev nD, crdCell c s ≠ barCell e := by decide

theorem owed_bar : ∀ c : Dev nD, ∑ d, O₀ d (barCell c) () = 3 := by
  intro c
  simp only [O₀_at, (rcv_ne_bar _ _ _).symm, (crd_ne_bar _ _ _).symm, if_false, Finset.sum_const_zero, zero_add, bar_inj]
  revert c; decide
theorem owed_crd (c i : Dev nD) (h : c < i) : ∑ d, O₀ d (crdCell c i) () = 1 := by
  simp only [O₀_at, (rcv_ne_crd _ _ _ _).symm, crd_ne_bar, if_false, Finset.sum_const_zero, zero_add, add_zero, crd_inj]
  revert c i; decide
theorem owed_rcv (c s : Dev nD) (h : s < c) : ∑ d, O₀ d (rcvCell c s) () = N := by
  simp only [O₀_at, rcv_ne_crd, rcv_ne_bar, if_false, Finset.sum_const_zero, add_zero, rcv_inj]
  rw [Finset.sum_eq_single s (fun d _ hd => Finset.sum_eq_zero fun e _ => if_neg fun h' => hd h'.2.symm) (fun h' => absurd (Finset.mem_univ s) h'),
    Finset.sum_eq_single c (fun e _ he => if_neg fun h' => he h'.1.symm) (fun h' => absurd (Finset.mem_filter.mpr ⟨Finset.mem_univ c, h⟩) h'), if_pos ⟨rfl, rfl⟩]

theorem launch_at (g : GSem nD τ sig) {n : ℕ} (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The credits device `c` has for the raises it waits for. -/
def credits (c : Dev nD) : sProp 𝕄 :=
  iprop(cred (tallyAt (barCell c) () 3) ∗ (bigSep (above c) fun d => cred (tallyAt (crdCell c d) () 1)) ∗ bigSep (below c) fun s => cred (tallyAt (rcvCell c s) () N))

theorem creds (c : Dev nD) : (Pipeline.launchCred O₀ c : sProp 𝕄) ⊢ credits c := by
  unfold Pipeline.launchCred credits
  refine (bigSep_subset (Finset.subset_univ (Finset.univ.map ⟨csem, csem_injective⟩))).trans ?_
  rw [bigSep_map]
  refine (Entails.of_eq (at_kind (fun g => cred (tallyOn g (launchCredit (Pipeline.owing O₀) 0 g))) c)).trans ?_
  iintro ⟨H1, -, H3, H4⟩
  isplitl [H4]; · rw [← launch_at _ (owed_bar c)]; iexact H4
  isplitl [H1]
  · iapply ((some_of (above c) fun d => cred (tallyOn (crdCell c d) (launchCredit (Pipeline.owing O₀) 0 (crdCell c d)))).trans
      (bigSep_mono fun d hd => Entails.of_eq (congrArg cred (launch_at (crdCell c d) (owed_crd c d (Finset.mem_filter.mp hd).2)))))
    iexact H1
  · iapply ((some_of (below c) fun s => cred (tallyOn (rcvCell c s) (launchCredit (Pipeline.owing O₀) 0 (rcvCell c s)))).trans
      (bigSep_mono fun s hs => Entails.of_eq (congrArg cred (launch_at (rcvCell c s) (owed_rcv c s (Finset.mem_filter.mp hs).2)))))
    iexact H3

/-! ## The kernel's obligation -/

/-- The arguments, as they were. -/
def args (c : Dev nD) : sProp 𝕄 := iprop(orig m c main_arg0 ∗ orig m c main_arg1 ∗ orig m c main_arg2 ∗ orig m c main_arg3 ∗ orig m c main_arg4)

def X (c : Dev nD) : sProp 𝕄 := iprop(args m c ∗ levAts L lv ∗ credits c ∗ G' m c)
def Y (c : Dev nD) : sProp 𝕄 := iprop(unscopedSems0 c ∗ args m c)
def Φ₀ (c : Dev nD) : sProp 𝕄 := iprop(X m c ∗ Pipeline.scopedRest cfg0.spec c)
def Φ₁ (c : Dev nD) : sProp 𝕄 := iprop(Y m c ∗ Pipeline.ownSems0 osem c ∗ Pipeline.scopedRest cfg0.spec c)

def dats (_ : Fin 1) (c : Dev nD) : Dat τ (Elt F) Unit ℕ UU ℕ cfg0 c where
  A w := m ((cfg0.win w).arr.view.loc (c : Thread nD τ))
  after w _ := match w with
    | ⟨0, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- From what the launch gives to what the body's proof starts from. -/
theorem given_intro (K : Dev nD × Fin 13 → ℕ) (c : Dev nD) :
    iprop(args m c ∗ levAts L lv ∗ credits c ∗ (records m K ∗ kept c) ∗ Pipeline.scopedRest cfg0.spec c) ⊢ given m K c := by
  rw [scopedRest0_eq]
  unfold given kept credits args anyAt locals payTok
  rw [at_kind (fun g => atPos ER g 0 ∅ 0)]
  simp only [BI.bigSep_sep']
  iintro ⟨Ha, Hlev, ⟨CB, CC, CR⟩, ⟨Hr, ⟨AC, AS, AR, AB⟩, Hl, TB, TC, TR, TS⟩, HK, H4⟩
  isplitl [Hr]; · iexact Hr
  isplitl [Hlev]; · iexact Hlev
  isplitl [CB AB]
  · isplitl [CB] <;> iassumption
  isplitl [AC]; · iexact AC
  isplitl [AS]; · iexact AS
  isplitl [AR]; · iexact AR
  isplitl [CC]; · iexact CC
  isplitl [CR]; · iexact CR
  isplitl [TB]
  · iapply (some_of (Finset.univ.erase c) fun i => dutyTok ER (barCell i) 0 c); iexact TB
  isplitl [TC]
  · iapply (some_of (below c) fun i => dutyTok ER (crdCell i c) 0 c); iexact TC
  isplitl [TS]
  · iapply (some_of (above c) fun i => dutyTok ER (sndCell c i) 0 c); iexact TS
  isplitl [TR]
  · iapply (some_of (above c) fun i => dutyTok ER (rcvCell i c) 0 c); iexact TR
  isplitl [Ha]; · iexact Ha
  isplitl [H4]; · iexact H4
  isplitl [Hl] <;> iassumption

/-- From what the body leaves to what the launch takes back. -/
theorem left_elim (K : Dev nD × Fin 13 → ℕ) (c : Dev nD) : iprop(records m K ∗ left m c) ⊢ |={Set.univ}=> Φ₁ m c := by
  unfold left Φ₁ Y
  rw [scopedRest0_eq]
  iintro ⟨#Hr, ⟨DB, DC, DS, DR⟩, Hl, Ha, H4, HK⟩
  ihave D := (Entails.of_eq (at_kind (fun g => doneAt m g) c).symm) $$ [DB DC DS DR]
  · isplitl [DC]; · iexact DC
    isplitl [DS]; · iexact DS
    isplitl [DR] <;> iassumption
  imod ((bigSep_with_persistent (R := records m K) (S := Finset.univ) (Φ := fun k : Fin 13 => doneAt m (kcell (c, k)))
    (Ψ := fun k => iprop(|={Set.univ}=> semVal (kcell (c, k)) 0)) fun k _ => cell_zero m K c k rfl).trans (bigSep_fupd _ _)) $$ [D] with Hz
  · isplitr; · iexact Hr
    iexact D
  imodintro
  ihave H := (sems_back (F := F) c) $$ [Hz Hl]
  · isplitl [Hz]; · iexact Hz
    unfold locals; iexact Hl
  icases H with ⟨HU, HO⟩
  isplitl [HU Ha]
  · isplitl [HU]; · iexact HU
    unfold args; iexact Ha
  isplitl [HO]; · iexact HO
  isplitl [HK]; · iexact HK
  iexact H4

def bodyPre (c : Dev nD) : sProp 𝕄 :=
  iprop(Φ₀ m c ∗ (dats m 0 c).owesAt () t0_0.castSucc
    ∗ (∃ d, ∃ f : Buf (Elt F) ((c : Thread nD τ).loc cc0_stg0_0), ⌜f = (dats m 0 c).before (0 : Fin 1) t0_0 d⌝ ∗ ((c : Thread nD τ).loc cc0_stg0_0) ↦{fullShare} f))
def bodyPost (c : Dev nD) : sProp 𝕄 :=
  iprop(Φ₁ m c ∗ (dats m 0 c).owesAt () t0_0.succ
    ∗ (∃ f : Buf (Elt F) ((c : Thread nD τ).loc cc0_stg0_0), ⌜f = outC m c⌝ ∗ ((c : Thread nD τ).loc cc0_stg0_0) ↦{fullShare} f))

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ (cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9) (fun _ => bodyPost m c)
  rw [← bind_pure (cc0_body (Memref.whole main_arg0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole cc0_stg0_0) (Memref.isWhole_whole _) (Memref.whole cc0_scratch0) (Memref.isWhole_whole _) cc0_scratch1 cc0_scratch2 cc0_scratch3 (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9)]
  unfold bodyPre Φ₀ X G' Dat.owesAt Pipeline.owesWithin
  rw [show (dats m 0 c).owed t0_0.castSucc = O₀ c from rfl]
  iintro ⟨⟨⟨Ha, Hlev, Hcr, %K, #Hr, Hk⟩, Hs⟩, ⟨%W, %hW, HO⟩, %d, %f, %hf, Ho⟩
  iapply (wp_body m K c) $$ [Ha Hlev Hcr Hk Hs HO Ho]
  · isplitl [Ha Hlev Hcr Hk Hs]
    · iapply (given_intro m K c)
      isplitl [Ha]; · iexact Ha
      isplitl [Hlev]; · iexact Hlev
      isplitl [Hcr]; · iexact Hcr
      isplitl [Hk]
      · isplitr; · iexact Hr
        iexact Hk
      iexact Hs
    isplitl [HO]
    · unfold owing; iexists W; iexact HO
    iexists f; iexact Ho
  unfold owing
  iintro ⟨Hl, ⟨%W', HO⟩, Ho⟩
  rw [Prog.pure_eq_ret, wp_ret]
  imod (left_elim m K c) $$ [Hl] with H
  · isplitr; · iexact Hr
    iexact Hl
  imodintro
  unfold bodyPost Dat.owesAt Pipeline.owesWithin
  rw [show (dats m 0 c).owed t0_0.succ = 0 from rfl]
  isplitl [H]; · iexact H
  isplitl [HO]
  · iexists W'
    isplitr; · ipureintro; exact fun _ _ => Or.inl trivial
    iexact HO
  iexists outC m c
  isplitr; · ipureintro; rfl
  iexact Ho

/-! ## The run -/

theorem share_eq (c : Dev nD) (w : Fin cfg0.W) : (dats m 0 c).share w = fullShare := by unfold Dat.share; split <;> rfl

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [Pipeline.unscopedRestP_none, unscopedRest0_eq]
  unfold X args orig
  iintro ⟨Ha, Hlev, Hcr, -, HG⟩
  ihave Hc := (creds (F := F) c) $$ Hcr
  imodintro
  isplitl
  · isplitl [Ha]; · iexact Ha
    isplitl [Hlev]; · iexact Hlev
    isplitl [Hc] <;> iassumption
  · iempintro

theorem stage_low : ∀ w : Fin cfg0.W, ∀ s, lvs (.dma ((cfg0.win w).sem s)) = 0 := by decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ _ _ _ (Or.inr (by rw [stage_low w s]; decide)) (Or.inr (by rw [stage_low w s]; decide)) (Or.inr (by rw [stage_low w s]; decide))
    · exact (mayWait c _ ∅ ∅ ∅ (Or.inl rfl) (Or.inl rfl) (Or.inl rfl)).trans (Entails.of_eq (congrArg _ (Owed_empty c)))

theorem orig_read (c : Dev nD) (b : Ref sig .tc) (s' : Phys nD τ sig (Elt F)) :
    (iprop(orig m c b ∗ SI s') : sProp 𝕄) ⊢ iprop(⌜s'.mem.mem ((c : Thread nD τ).loc b) = m ((c : Thread nD τ).loc b)⌝ ∗ SI s') := by
  unfold orig
  iintro ⟨H, HSI⟩
  icombine H HSI gives %h
  isplitr; · ipureintro; exact Buf.eq_of_forall_mem_univ h
  iexact HSI

/-- A memory in which device `c`'s arguments are as they were at the launch. -/
def ArgsKept (c : Dev nD) (s : MemSt nD τ sig (Elt F)) : Prop :=
  s.mem ((c : Thread nD τ).loc main_arg0) = m ((c : Thread nD τ).loc main_arg0)
  ∧ s.mem ((c : Thread nD τ).loc main_arg1) = m ((c : Thread nD τ).loc main_arg1)
  ∧ s.mem ((c : Thread nD τ).loc main_arg2) = m ((c : Thread nD τ).loc main_arg2)
  ∧ s.mem ((c : Thread nD τ).loc main_arg3) = m ((c : Thread nD τ).loc main_arg3)
  ∧ s.mem ((c : Thread nD τ).loc main_arg4) = m ((c : Thread nD τ).loc main_arg4)

theorem args_read (c : Dev nD) (s' : Phys nD τ sig (Elt F)) : (iprop(args m c ∗ SI s') : sProp 𝕄) ⊢ iprop(⌜ArgsKept m c s'.mem⌝ ∗ SI s') := by
  unfold args ArgsKept
  iintro ⟨⟨H0, H1, H2, H3, H4⟩, HSI⟩
  icases (orig_read m c main_arg0 s') $$ [H0 HSI] with ⟨%h0, HSI⟩; · isplitl [H0] <;> iassumption
  icases (orig_read m c main_arg1 s') $$ [H1 HSI] with ⟨%h1, HSI⟩; · isplitl [H1] <;> iassumption
  icases (orig_read m c main_arg2 s') $$ [H2 HSI] with ⟨%h2, HSI⟩; · isplitl [H2] <;> iassumption
  icases (orig_read m c main_arg3 s') $$ [H3 HSI] with ⟨%h3, HSI⟩; · isplitl [H3] <;> iassumption
  icases (orig_read m c main_arg4 s') $$ [H4 HSI] with ⟨%h4, HSI⟩; · isplitl [H4] <;> iassumption
  isplitr; · ipureintro; exact ⟨h0, h1, h2, h3, h4⟩
  iexact HSI

theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What is known of a device at the end. -/
def QY (c : Dev nD) (s : MemSt nD τ sig (Elt F)) : Prop :=
  (∀ sm : SemLoc sig, sm.isScoped .tc = false → s.sem ((c : Thread nD τ), sm) = 0) ∧ ArgsKept m c s

theorem end_read (c : Dev nD) (s' : Phys nD τ sig (Elt F)) : iprop(Y m c ∗ emp ∗ SI s') ⊢ |={Set.univ}=> iprop(⌜QY m c s'.mem⌝ ∗ SI s') := by
  unfold Y QY
  iintro ⟨⟨Hu, Ha⟩, -, HSI⟩
  icases (args_read m c s') $$ [Ha HSI] with ⟨%ha, HSI⟩; · isplitl [Ha] <;> iassumption
  imod (Pipeline.unscopedSems0_read (X := unscopedSems0 c) (c := c) fupd_intro s') $$ [Hu HSI] with ⟨%hu, HSI⟩
  · isplitl [Hu] <;> iassumption
  imodintro
  isplitr; · ipureintro; exact ⟨hu, ha⟩
  iexact HSI

/-- A device's result array after the run. -/
def result (c : Dev nD) : Buf (Elt F) ((c : Thread nD τ).loc main_v1) := (dats m 0 c).arrAt (0 : Fin 1) cfg0.N

set_option maxRecDepth 8000 in
/-- Every weakly fair run of the mesh ends; then each device's result array holds `result`, its arguments are as they
    were, and every counter is at zero. -/
theorem run_main (ρ : Dev nD → PrngReg) : θ_run defs (onTc (τ := τ) (main (F := F))) ⟨m, fun _ => 0, ρ⟩
    (fun r => (∀ c : Dev nD, r.2.mem ((c : Thread nD τ).loc main_v1) = result m c ∧ ArgsKept m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      icases (ownU_split _ _) $$ Hu with ⟨HP, HX⟩
      imod (fund_mesh m) $$ HX with HG
      imodintro
      isplitl [HP] <;> iassumption)
    (hglob := glob m)
    (hA := fun _ _ => rfl) (hpf := fun _ k => k.elim0)
    (X := X m) (Y := Y m) (Z := fun _ => iprop(emp))
    (hX := start_intro m ρ)
    (hin := fun c => show iprop(X m c ∗ Pipeline.prefHeld Pipeline.Prefetch.none c (fun _ => fullShare.right) (fun k => k.elim0) ∗ Pipeline.scopedRest cfg0.spec c) ⊢ Φ₀ m c from by
      unfold Φ₀; iintro ⟨HX, -, HR⟩; isplitl [HX] <;> iassumption)
    (hout := fun c => Idealize.SL.BI.Entails.refl (Φ₁ m c))
    (QY := QY m) (hY := end_read m)
    (hQ := fun _ h hs => ⟨fun c => ⟨(h c).1 0, (h c).2.2.2⟩, sem_eq_zero hs fun c => (h c).2.2.1⟩)

end Cert.KernelIdealProof

end
-- ==== Proof.KernelIdealAt.lean ====
/-
One device's result, element by element, over the extended reals.
-/
module

public import proofs.«01_k».proof.Proof.KernelIdealBody
public import Idealize.ShloMosaic.Lib.Pointwise

@[expose] public section

noncomputable section

namespace Cert.KernelIdealProof

open Cert.KernelIdeal Cert.KernelIdeal.Gen
open Idealize.ShloMosaic
open Idealize.ShloMosaic.TcCoe

/-! ## The arguments, as arrays of extended reals -/

section
variable (m : (ℓ : Loc nD τ sig) → Buf (Elt Ideal) ℓ) (c : Dev nD)
abbrev argX : S2x128x512.Idx → EReal := m ((c : Thread nD τ).loc main_arg0)
abbrev argWq : S512x256.Idx → EReal := m ((c : Thread nD τ).loc main_arg1)
abbrev argK : S2x128x4x64.Idx → EReal := m ((c : Thread nD τ).loc main_arg2)
abbrev argV : S2x128x4x64.Idx → EReal := m ((c : Thread nD τ).loc main_arg3)
abbrev argWo : S256x512.Idx → EReal := m ((c : Thread nD τ).loc main_arg4)
end

/-- The contents of the key/value buffer, as an array of extended reals. -/
abbrev arrKV (g : KVBuf Ideal) : S4x2x2x128x256.Idx → EReal := g

/-! ## The key/value buffer -/

/-- Head `h`'s column `d`. -/
abbrev col (h : Fin 4) (d : Fin 64) : Fin 256 := ⟨64 * h.val + d.val, by omega⟩

/-- A sum over the columns of all heads, head by head. -/
theorem sum_col {M : Type} [AddCommMonoid M] (f : Fin 256 → M) : ∑ k, f k = ∑ h : Fin 4, ∑ d : Fin 64, f (col h d) := by
  rw [← Fintype.sum_prod_type' fun h d => f (col h d)]
  exact (Fintype.sum_equiv (finProdFinEquiv (m := 4) (n := 64)) _ _ fun x => congrArg f (Fin.ext (Nat.add_comm _ _))).symm

theorem col_head (h : Fin 4) (d : Fin 64) (p : (64 * h.val + d.val) / 64 < 4) : (⟨(64 * h.val + d.val) / 64, p⟩ : Fin 4) = h := Fin.ext (by show (64 * h.val + d.val) / 64 = h.val; omega)
theorem col_lane (h : Fin 4) (d : Fin 64) (p : (64 * h.val + d.val) % 64 < 64) : (⟨(64 * h.val + d.val) % 64, p⟩ : Fin 64) = d := Fin.ext (by show (64 * h.val + d.val) % 64 = d.val; omega)

theorem ld_at (f : KVBuf Ideal) (n : Fin 4) (kv b : Fin 2) (h : Fin 4) (j : Fin 128) (d : Fin 64) :
    ld f n kv b h (ix5 0 0 0 j d) = f (ix5 n kv b j (col h d)) := by
  show f _ = f _
  congr 1
  funext a
  apply Fin.ext
  fin_cases a
  · show n.val + 1 * 0 = n.val; omega
  · show kv.val + 1 * 0 = kv.val; omega
  · show b.val + 1 * 0 = b.val; omega
  · show 0 + 1 * j.val = j.val; omega
  · show 64 * h.val + 1 * d.val = 64 * h.val + d.val; omega

section
variable (m : (ℓ : Loc nD τ sig) → Buf (Elt Ideal) ℓ)

theorem KV_keys (n : Fin 4) (b : Fin 2) (j : Fin 128) (h : Fin 4) (d : Fin 64) :
    KV m (ix5 n 0 b j (col h d)) = argK m n (ix4 b j h d) := by
  show stored m n _ _ = _
  unfold stored
  have hn : ix5 n 0 b j (col h d) ∉ (kvM.access (rectV n) : View sig .tc _ _ _).set := by
    rw [View.set_slice_whole, Rect.mem_set_unit, k0_off2_eq]
    intro hi
    exact absurd (hi 1).1 (by show ¬1 ≤ 0; omega)
  rw [View.write_of_not_mem _ _ _ hn]
  have e : (kvM.access (rectK n) : View sig .tc _ _ _).emb (ix5 0 0 b j (col h d)) = ix5 n 0 b j (col h d) := by
    funext a
    apply Fin.ext
    have ho := k0_off1_eq n
    show k0_off1 n a + 1 * _ = _
    rw [ho]
    fin_cases a
    · show n.val + 1 * 0 = n.val; omega
    · rfl
    · show 0 + 1 * b.val = b.val; omega
    · show 0 + 1 * j.val = j.val; omega
    · show 0 + 1 * (col h d).val = (col h d).val; omega
  rw [← e, View.write_emb_of_mem _ _ (Finset.mem_univ _)]
  pointwise [k0_pay1]
  exact congrArg (argK m n) (by rw [col_head, col_lane])
theorem KV_values (n : Fin 4) (b : Fin 2) (j : Fin 128) (h : Fin 4) (d : Fin 64) :
    KV m (ix5 n 1 b j (col h d)) = argV m n (ix4 b j h d) := by
  show stored m n _ _ = _
  unfold stored
  have e : (kvM.access (rectV n) : View sig .tc _ _ _).emb (ix5 0 0 b j (col h d)) = ix5 n 1 b j (col h d) := by
    funext a
    apply Fin.ext
    have ho := k0_off2_eq n
    show k0_off2 n a + 1 * _ = _
    rw [ho]
    fin_cases a
    · show n.val + 1 * 0 = n.val; omega
    · rfl
    · show 0 + 1 * b.val = b.val; omega
    · show 0 + 1 * j.val = j.val; omega
    · show 0 + 1 * (col h d).val = (col h d).val; omega
  rw [← e, View.write_emb_of_mem _ _ (Finset.mem_univ _)]
  pointwise [k0_pay2]
  exact congrArg (argV m n) (by rw [col_head, col_lane])

theorem row0_at (c : Dev nD) (i : Fin 128) (e : Fin 512) : xM.view.readAt (Elt Ideal) rect0.toLoadRect (m ((c : Thread nD τ).loc main_arg0)) (ix3 0 i e) = argX m c (ix3 0 i e) := by
  show argX m c _ = argX m c _
  congr 1
  funext a
  apply Fin.ext
  fin_cases a
  · rfl
  · show 0 + 1 * i.val = i.val; omega
  · show 0 + 1 * e.val = e.val; omega
theorem query0_at (c : Dev nD) (i : Fin 128) (f : Fin 256) : query0 m c (ix2 i f)
    = ∑ e : Fin 512, argX m c (ix3 0 i e) * argWq m c (ix2 e f) := by
  pointwise [query0, k0_pay4, k0_pay3]
  exact Finset.sum_congr rfl fun e _ => congrArg (· * argWq m c (ix2 e f)) (row0_at m c i e)
theorem row1_at (c : Dev nD) (i : Fin 128) (e : Fin 512) : xM.view.readAt (Elt Ideal) rect1.toLoadRect (m ((c : Thread nD τ).loc main_arg0)) (ix3 0 i e) = argX m c (ix3 1 i e) := by
  show argX m c _ = argX m c _
  congr 1
  funext a
  apply Fin.ext
  fin_cases a
  · rfl
  · show 0 + 1 * i.val = i.val; omega
  · show 0 + 1 * e.val = e.val; omega
theorem query1_at (c : Dev nD) (i : Fin 128) (f : Fin 256) : query1 m c (ix2 i f)
    = ∑ e : Fin 512, argX m c (ix3 1 i e) * argWq m c (ix2 e f) := by
  pointwise [query1, k0_pay5, k0_pay3]
  exact Finset.sum_congr rfl fun e _ => congrArg (· * argWq m c (ix2 e f)) (row1_at m c i e)
end

/-! ## One head -/

/-- Four pieces of 64 columns side by side, read at head `h`'s column `d`. -/
theorem piece_eq {α : Type} (o : Fin 4 → Fin 64 → α) (h : Fin 4) (d : Fin 64) :
    (if h0 : (col h d).val < 64 then o 0 ⟨(col h d).val, h0⟩
      else if h1 : (col h d).val - 64 < 64 then o 1 ⟨(col h d).val - 64, h1⟩
      else if h2 : (col h d).val - 64 - 64 < 64 then o 2 ⟨(col h d).val - 64 - 64, h2⟩
      else o 3 ⟨(col h d).val - 64 - 64 - 64, by have := (col h d).isLt; omega⟩) = o h d := by
  have hd := d.isLt
  have hc : (col h d).val = 64 * h.val + d.val := rfl
  split_ifs with h0 h1 h2
  · obtain rfl : h = 0 := Fin.ext (by show h.val = 0; omega)
    exact congrArg (o 0) (Fin.ext (by show (col 0 d).val = d.val; rw [hc]; show 64 * 0 + d.val = d.val; omega))
  · obtain rfl : h = 1 := Fin.ext (by show h.val = 1; omega)
    exact congrArg (o 1) (Fin.ext (by show (col 1 d).val - 64 = d.val; rw [hc]; show 64 * 1 + d.val - 64 = d.val; omega))
  · obtain rfl : h = 2 := Fin.ext (by show h.val = 2; omega)
    exact congrArg (o 2) (Fin.ext (by show (col 2 d).val - 64 - 64 = d.val; rw [hc]; show 64 * 2 + d.val - 64 - 64 = d.val; omega))
  · obtain rfl : h = 3 := Fin.ext (by show h.val = 3; omega)
    exact congrArg (o 3) (Fin.ext (by show (col 3 d).val - 64 - 64 - 64 = d.val; rw [hc]; show 64 * 3 + d.val - 64 - 64 - 64 = d.val; omega))

section
variable (c : Fin 4) (q : FVec Ideal S128x256 .f32) (g : KVBuf Ideal) (b : Fin 2) (h : Fin 4)

theorem qHead_at (i : Fin 128) (d : Fin 64) : qHead q h (ix2 i d) = q (ix2 i (col h d)) := by
  pointwise [qHead]

theorem headW_at (s : Fin 4) (i j : Fin 128) : headW (BitVec.ofNat 32 c.val) q (fun _ => g) b h s (ix2 i j)
    = Ideal.exp (if 2 * s.val + j.val / 64 ≤ 2 * c.val + i.val / 64 then
        (∑ d : Fin 64, q (ix2 i (col h d)) * arrKV g (ix5 s 0 b j (col h d))) * Ideal.ofBits .f32 0x3E000000#32 else ⊥) := by
  have hm := maskOf_at c s (ix2 i j)
  pointwise [headW, wts]
  rw [hm]
  simp only [qHead_at, ld_at]
  congr 1
  show Scalar.select (if 2 * s.val + j.val / 64 ≤ 2 * c.val + i.val / 64 then 1#1 else 0#1) _ _ = _
  split_ifs <;> rfl

theorem headV_at (s : Fin 4) (j : Fin 128) (d : Fin 64) : headV (BitVec.ofNat 32 c.val) (fun _ => g) b h s (ix2 j d)
    = if s ≤ c then arrKV g (ix5 s 1 b j (col h d)) else 0 := by
  unfold headV vals
  rw [sees_eq]
  split_ifs
  · pointwise
    exact ld_at ..
  · pointwise

theorem headL_at (v2 : BitVec 32) (g : Fin 4 → KVBuf Ideal) (i : Fin 128) : headL v2 q g b h (ix2 i 0) = ∑ s : Fin 4, ∑ j : Fin 128, headW v2 q g b h s (ix2 i j) := by
  rw [Fin.sum_univ_four]
  pointwise [headL, lNext]

theorem headA_at (v2 : BitVec 32) (g : Fin 4 → KVBuf Ideal) (i : Fin 128) (d : Fin 64) : headA v2 q g b h (ix2 i d)
    = ∑ s : Fin 4, ∑ j : Fin 128, headW v2 q g b h s (ix2 i j) * headV v2 g b h s (ix2 j d) := by
  rw [Fin.sum_univ_four]
  pointwise [headA, aNext]

theorem headO_at (v2 : BitVec 32) (g : Fin 4 → KVBuf Ideal) (i : Fin 128) (d : Fin 64) : headO v2 q g b h (ix2 i d)
    = Ideal.div (headA v2 q g b h (ix2 i d)) (headL v2 q g b h (ix2 i 0)) := by
  pointwise [headO]

theorem rowO_at (v2 : BitVec 32) (g : Fin 4 → KVBuf Ideal) (wo : Vec Ideal S256x512 .f32) (i : Fin 128) (n : Fin 512) : rowO v2 q g b wo (ix3 0 i n)
    = ∑ h : Fin 4, ∑ d : Fin 64, headO v2 q g b h (ix2 i d) * wo (ix2 (col h d) n) := by
  pointwise [rowO]
  rw [sum_col]
  exact Finset.sum_congr rfl fun h _ => Finset.sum_congr rfl fun d _ => congrArg (· * wo (ix2 (col h d) n)) (piece_eq (fun h d => headO v2 q g b h (ix2 i d)) h d)
end

/-! ## The result -/

variable (m : (ℓ : Loc nD τ sig) → Buf (Elt Ideal) ℓ)

theorem outC_at0 (c : Dev nD) (i : Fin 128) (n : Fin 512) : outC m c (ix3 0 i n)
    = rowO (BitVec.ofNat 32 c.val) (query0 m c) (fun _ => KV m) 0 (m ((c : Thread nD τ).loc main_arg4)) (ix3 0 i n) := by
  unfold outC outOver
  have hn : ix3 0 i n ∉ (outM.access rect1 : View sig .tc _ _ _).set := by
    rw [View.set_slice_whole, Rect.mem_set_unit]
    intro hi
    exact absurd (hi 0).1 (by show ¬1 ≤ 0; omega)
  rw [View.write_of_not_mem _ _ _ hn]
  have e : (outM.access rect0 : View sig .tc _ _ _).emb (ix3 0 i n) = ix3 0 i n := by
    funext a
    apply Fin.ext
    fin_cases a
    · rfl
    · show 0 + 1 * i.val = i.val; omega
    · show 0 + 1 * n.val = n.val; omega
  conv_lhs => rw [← e]
  exact View.write_emb_of_mem _ _ (Finset.mem_univ _)
theorem outC_at1 (c : Dev nD) (i : Fin 128) (n : Fin 512) : outC m c (ix3 1 i n)
    = rowO (BitVec.ofNat 32 c.val) (query1 m c) (fun _ => KV m) 1 (m ((c : Thread nD τ).loc main_arg4)) (ix3 0 i n) := by
  unfold outC outOver
  have e : (outM.access rect1 : View sig .tc _ _ _).emb (ix3 0 i n) = ix3 1 i n := by
    funext a
    apply Fin.ext
    fin_cases a
    · rfl
    · show 0 + 1 * i.val = i.val; omega
    · show 0 + 1 * n.val = n.val; omega
  rw [← e]
  exact View.write_emb_of_mem _ _ (Finset.mem_univ _)

end Cert.KernelIdealProof

end
-- ==== Proof.ReferenceAt.lean ====
/-
The reference's result, element by element, over the extended reals.
-/
module

public import proofs.«01_k».proof.Proof.Gen.ReferenceIdeal
public import proofs.«01_k».proof.Proof.Gen.ReferenceIdeal.Run
public import Idealize.ShloMosaic.Lib.Pointwise
public import Idealize.ShloMosaic.Lib.Routing.OpsOrder
public import Idealize.ShloMosaic.Lib.Tactic.CleanTypes

@[expose] public section

noncomputable section

namespace Cert.ReferenceProof

open Cert.ReferenceIdeal Cert.ReferenceIdeal.Gen
open Idealize.ShloMosaic

/-! ## The stages of the reference -/

/-- The block number of each row. -/
def blocks : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

/-- Which keys (second axis) a row (first axis) may see. -/
def seen : IVec S512x512 1 :=
  cmpi .sle (broadcastInDim S512x512 ![0, 1] bcast_S1x512_S512x512_0_1 (broadcastInDim S1x512 ![1] bcast_S512_S1x512_1 blocks))
    (broadcastInDim S512x512 ![0, 1] bcast_S512x1_S512x512_0_1 (broadcastInDim S512x1 ![0] bcast_S512_S512x1_0 blocks))

/-- Which rows see some key. -/
def keep : IVec S512 1 := Host.reduce IntOp.ori seen (constantI S_ 1 0#1) reducesTo_S512x512_S512_d1 h_S_

section
variable (x : FVec Ideal S2x512x512 .f32) (wq : FVec Ideal S512x256 .f32) (k v : FVec Ideal S2x512x4x64 .f32) (wo : FVec Ideal S256x512 .f32)

/-- The masked scores. -/
def scores : FVec Ideal S2x4x512x512 .f32 :=
  select (broadcastInDim S2x4x512x512 ![0, 1, 2, 3] bcast_S1x1x512x512_S2x4x512x512_0_1_2_3 (broadcastInDim S1x1x512x512 ![2, 3] bcast_S512x512_S1x1x512x512_2_3 seen))
    (mulf (Host.dotGeneral dot_S2x512x4x64_S2x512x4x64_S2x4x512x512_3_3_1_1_02_02 none
        (shapeCast S2x512x4x64 (Host.dotGeneral dot_S2x512x512_S512x256_S2x512x256_2_0_01_1_n_n none x wq) shapeCasts_S2x512x256_S2x512x4x64) k)
      (broadcastInDim S2x4x512x512 ![] bcast_S_S2x4x512x512 (constant S_ .f32 0x3E000000#32)))
    (broadcastInDim S2x4x512x512 ![] bcast_S_S2x4x512x512 (id (constant S_ .f32 0xFF800000#32)))

variable (s : FVec Ideal S2x4x512x512 .f32)

/-- Each row's largest score. -/
def top : FVec Ideal S2x4x512 .f32 := Host.reduce FloatOps.maximumf s (constant S_ .f32 0xFF800000#32) reducesTo_S2x4x512x512_S2x4x512_d3 h_S_
/-- The exponentials of the scores, each less its row's largest. -/
def powers : FVec Ideal S2x4x512x512 .f32 :=
  Host.exp (subf s (broadcastInDim S2x4x512x512 ![0, 1, 2, 3] bcast_S2x4x512x1_S2x4x512x512_0_1_2_3 (broadcastInDim S2x4x512x1 ![0, 1, 2] bcast_S2x4x512_S2x4x512x1_0_1_2 (top s))))
/-- The weights. -/
def weights : FVec Ideal S2x4x512x512 .f32 :=
  select (broadcastInDim S2x4x512x512 ![0, 1, 2, 3] bcast_S1x1x512x1_S2x4x512x512_0_1_2_3 (broadcastInDim S1x1x512x1 ![2] bcast_S512_S1x1x512x1_2 keep))
    (Host.divf (powers s) (broadcastInDim S2x4x512x512 ![0, 1, 2, 3] bcast_S2x4x512x1_S2x4x512x512_0_1_2_3
      (select (broadcastInDim S2x4x512x1 ![0, 1, 2, 3] bcast_S1x1x512x1_S2x4x512x1_0_1_2_3 (broadcastInDim S1x1x512x1 ![2] bcast_S512_S1x1x512x1_2 keep))
        (broadcastInDim S2x4x512x1 ![0, 1, 2] bcast_S2x4x512_S2x4x512x1_0_1_2 (Host.reduceAdd (powers s) (constant S_ .f32 0x00000000#32) reducesTo_S2x4x512x512_S2x4x512_d3 h_S_))
        (broadcastInDim S2x4x512x1 ![] bcast_S_S2x4x512x1 (id (constant S_ .f32 0x3F800000#32))))))
    (broadcastInDim S2x4x512x512 ![] bcast_S_S2x4x512x512 (id (constant S_ .f32 0x00000000#32)))
/-- The result. -/
def result : FVec Ideal S2x512x512 .f32 :=
  Host.dotGeneral dot_S2x512x256_S256x512_S2x512x512_2_0_01_1_n_n none
    (shapeCast S2x512x256 (transpose S2x512x4x64 [0, 3, 1, 2] (Host.dotGeneral dot_S2x512x4x64_S2x4x512x512_S2x4x64x512_1_3_3_2_02_01 none v (weights (scores x wq k)))
      transposes_S2x4x64x512_S2x512x4x64_0_3_1_2) shapeCasts_S2x512x4x64_S2x512x256) wo
end

/-- The reference leaves these stages' result. -/
theorem res_eq (m : (ℓ : Loc nD τ sig) → Buf (Elt Ideal) ℓ) (c : Dev nD) :
    Value.res_main_v33 m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

/-! ## The mask -/

/-- The sign of a word. -/
def signW (n : BitVec 32) : BitVec 32 := if n = 0 then 0 else if n.msb then -1 else 1
/-- A row's block number: the reference's division by 64 on words. -/
def blockW (n : BitVec 32) : BitVec 32 :=
  Scalar.select (IntOp.andi (IntOp.cmpi .ne (signW n) (signW 64#32)) (IntOp.cmpi .ne (IntOp.remsi .host n 64#32) 0#32))
    (IntOp.subi (IntOp.divsi .host n 64#32) 1#32) (IntOp.divsi .host n 64#32)

theorem blocks_at (i : Fin 512) : blocks (ix1 i) = blockW (BitVec.ofNat 32 i.val) := rfl
theorem blockW_eq : ∀ n : Fin 512, blockW (BitVec.ofNat 32 n.val) = BitVec.ofNat 32 (n.val / 64) := by decide +kernel

theorem sle_eq : ∀ a b : Fin 8, IntOp.cmpi .sle (BitVec.ofNat 32 a.val) (BitVec.ofNat 32 b.val) = if a.val ≤ b.val then 1#1 else 0#1 := by decide

theorem seen_at (i j : Fin 512) : seen (ix2 i j) = if j.val / 64 ≤ i.val / 64 then 1#1 else 0#1 := by
  have : seen (ix2 i j) = IntOp.cmpi .sle (blocks (ix1 j)) (blocks (ix1 i)) := by pointwise [seen]
  rw [this, blocks_at, blocks_at, blockW_eq, blockW_eq]
  exact sle_eq ⟨j.val / 64, by omega⟩ ⟨i.val / 64, by omega⟩

theorem keep_at (i : Fin 512) : keep (ix1 i) = 1#1 := by
  have : keep (ix1 i) = Finset.fold IntOp.ori (0#1) (fun j => seen (ix2 i j)) Finset.univ := by pointwise [keep]
  rw [this, Routing.fold_ori]
  exact ⟨i, Finset.mem_univ _, by rw [seen_at, if_pos le_rfl]⟩

/-! ## The stages at an index -/

theorem negInf : Ideal.ofBits .f32 0xFF800000#32 = ⊥ := by simp [Ideal.ofBits, Ideal.ieee]

section
variable (x : FVec Ideal S2x512x512 .f32) (wq : FVec Ideal S512x256 .f32) (k v : FVec Ideal S2x512x4x64 .f32) (wo : FVec Ideal S256x512 .f32)

theorem scores_at (b : Fin 2) (h : Fin 4) (i j : Fin 512) : scores x wq k (ix4 b h i j)
    = if j.val / 64 ≤ i.val / 64 then (∑ d : Fin 64, (∑ e : Fin 512, x (ix3 b i e) * wq (ix2 e ⟨h.val * 64 + d.val, by omega⟩)) * k (ix4 b j h d)) * Ideal.ofBits .f32 0x3E000000#32 else ⊥ := by
  have hs := seen_at i j
  pointwise [scores]
  rw [hs]
  split_ifs
  · rfl
  · exact negInf

theorem top_at (s : FVec Ideal S2x4x512x512 .f32) (b : Fin 2) (h : Fin 4) (i : Fin 512) : top s (ix3 b h i) = Finset.univ.fold max ⊥ fun j : Fin 512 => s (ix4 b h i j) := by
  pointwise [top]
  rw [negInf]

theorem powers_at (s : FVec Ideal S2x4x512x512 .f32) (b : Fin 2) (h : Fin 4) (i j : Fin 512) : powers s (ix4 b h i j) = Ideal.exp (s (ix4 b h i j) - top s (ix3 b h i)) := by
  pointwise [powers]

theorem weights_at (s : FVec Ideal S2x4x512x512 .f32) (b : Fin 2) (h : Fin 4) (i j : Fin 512) :
    weights s (ix4 b h i j) = Ideal.div (powers s (ix4 b h i j)) (∑ j' : Fin 512, powers s (ix4 b h i j')) := by
  have hk := keep_at i
  pointwise [weights]
  rw [hk]; rfl

theorem result_at (b : Fin 2) (i n : Fin 512) : result x wq k v wo (ix3 b i n)
    = ∑ f : Fin 256, (∑ j : Fin 512, v (ix4 b j ⟨f.val / 64, by omega⟩ ⟨f.val % 64, by omega⟩) * weights (scores x wq k) (ix4 b ⟨f.val / 64, by omega⟩ i j)) * wo (ix2 f n) := by
  pointwise [result]
end

end Cert.ReferenceProof

end
-- ==== Proof.Softmax.lean ====
/-
The mathematics: weighting by exponentials gives the same average whether or not the largest score is subtracted first.
Scores are finite or minus infinity, one of them at least is finite; the values averaged are any extended reals.
-/
module

public import Idealize.ShloMosaic.PureOps.Ideal
public import Idealize.ShloMosaic.Lib.Pointwise

@[expose] public section

noncomputable section

namespace Cert.Softmax

open Idealize.ShloMosaic

/-! ## Finite extended reals -/

def IsReal (a : EReal) : Prop := ∃ r : ℝ, a = (r : EReal)

theorem IsReal.mul {a b : EReal} : IsReal a → IsReal b → IsReal (a * b)
  | ⟨r, hr⟩, ⟨s, hs⟩ => ⟨r * s, by rw [hr, hs, EReal.coe_mul]⟩
theorem coe_sum {ι : Type} (S : Finset ι) (f : ι → ℝ) : ((∑ i ∈ S, f i : ℝ) : EReal) = ∑ i ∈ S, (f i : EReal) := by
  classical
  induction S using Finset.induction_on with
  | empty => simp
  | insert i S hi ih => rw [Finset.sum_insert hi, Finset.sum_insert hi, EReal.coe_add, ih]
theorem IsReal.sum {ι : Type} {S : Finset ι} {f : ι → EReal} (h : ∀ i, IsReal (f i)) : IsReal (∑ i ∈ S, f i) := by
  choose r hr using h
  exact ⟨∑ i ∈ S, r i, by rw [coe_sum]; exact Finset.sum_congr rfl fun i _ => hr i⟩
theorem IsReal.of_abs_lt {a : EReal} (h : max a (-a) < ⊤) : IsReal a := by
  induction a with
  | bot => exact absurd h (by simp)
  | coe r => exact ⟨r, rfl⟩
  | top => exact absurd h (by simp)

/-- Multiplication by a finite nonnegative number distributes over any sum. -/
theorem sum_mul_coe {ι : Type} (S : Finset ι) (f : ι → EReal) {r : ℝ} (hr : 0 ≤ r) : (∑ i ∈ S, f i) * (r : EReal) = ∑ i ∈ S, f i * (r : EReal) := by
  classical
  induction S using Finset.induction_on with
  | empty => simp
  | insert i S hi ih =>
    rw [Finset.sum_insert hi, Finset.sum_insert hi, EReal.right_distrib_of_nonneg_of_ne_top (EReal.coe_nonneg.mpr hr) (EReal.coe_ne_top r), ih]

/-! ## The average -/

/-- A score: finite, or minus infinity. -/
def Score (a : EReal) : Prop := a = ⊥ ∨ IsReal a

/-- The exponential of a score, as a real number. -/
def expR (a : EReal) : ℝ := (Ideal.exp a).toReal

theorem expR_bot : expR ⊥ = 0 := by unfold expR; rw [Ideal.exp_bot]; rfl
theorem expR_coe (r : ℝ) : expR (r : EReal) = Real.exp r := by unfold expR; rw [Ideal.exp_coe]; rfl
theorem exp_score {a : EReal} (h : Score a) : Ideal.exp a = (expR a : EReal) := by
  rcases h with rfl | ⟨r, rfl⟩
  · rw [expR_bot, Ideal.exp_bot]; rfl
  · rw [expR_coe, Ideal.exp_coe]
theorem expR_nonneg {a : EReal} (h : Score a) : 0 ≤ expR a := by
  rcases h with rfl | ⟨r, rfl⟩
  · rw [expR_bot]
  · rw [expR_coe]; exact (Real.exp_pos r).le
theorem exp_sub {a : EReal} (h : Score a) (r : ℝ) : Ideal.exp (a - (r : EReal)) = ((expR a * Real.exp (-r) : ℝ) : EReal) := by
  rcases h with rfl | ⟨s, rfl⟩
  · rw [expR_bot, EReal.bot_sub, Ideal.exp_bot, zero_mul]; rfl
  · rw [expR_coe, ← EReal.coe_sub, Ideal.exp_coe, sub_eq_add_neg, Real.exp_add]

theorem div_coe (a : EReal) {r : ℝ} (hr : r ≠ 0) : Ideal.div a (r : EReal) = a * ((r⁻¹ : ℝ) : EReal) := by
  unfold Ideal.div
  rw [if_neg (by exact_mod_cast hr), EReal.coe_inv]

variable {ι : Type} [Fintype ι] (t : ι → EReal)

/-- The largest of scores of which one is finite is finite. -/
theorem top_finite (h : ∀ j, Score (t j)) {j₀ : ι} (h₀ : IsReal (t j₀)) : IsReal (Finset.univ.fold max ⊥ t) := by
  have hle : t j₀ ≤ Finset.univ.fold max ⊥ t := by
    rw [Finset.le_fold_max]
    exact Or.inr ⟨j₀, Finset.mem_univ _, le_rfl⟩
  have hlt : Finset.univ.fold max ⊥ t < ⊤ := by
    rw [Finset.fold_max_lt]
    refine ⟨bot_lt_top, fun j _ => ?_⟩
    rcases h j with e | ⟨r, e⟩ <;> rw [e]
    · exact bot_lt_top
    · exact EReal.coe_lt_top r
  generalize Finset.univ.fold max ⊥ t = M at hle hlt
  obtain ⟨r, hr⟩ := h₀
  induction M with
  | bot => rw [hr] at hle; exact absurd hle (by simp)
  | coe s => exact ⟨s, rfl⟩
  | top => exact absurd hlt (lt_irrefl _)

/-- The weighted sum of the values over the sum of the weights is the sum of the values by the normalised weights,
    which may be taken after subtracting the largest score. -/
theorem average (h : ∀ j, Score (t j)) {j₀ : ι} (h₀ : IsReal (t j₀)) (v : ι → EReal) :
    Ideal.div (∑ j, Ideal.exp (t j) * v j) (∑ j, Ideal.exp (t j))
      = ∑ j, v j * Ideal.div (Ideal.exp (t j - Finset.univ.fold max ⊥ t)) (∑ j', Ideal.exp (t j' - Finset.univ.fold max ⊥ t)) := by
  obtain ⟨M, hM⟩ := top_finite t h h₀
  rw [hM]
  have hpos : 0 < ∑ j, expR (t j) := Finset.sum_pos' (fun j _ => expR_nonneg (h j)) ⟨j₀, Finset.mem_univ _, by
    obtain ⟨r, hr⟩ := h₀; rw [hr, expR_coe]; exact Real.exp_pos r⟩
  have hM' : Real.exp (-M) ≠ 0 := (Real.exp_pos _).ne'
  have hsum : ∑ j, Ideal.exp (t j) = ((∑ j, expR (t j) : ℝ) : EReal) := by
    rw [coe_sum]; exact Finset.sum_congr rfl fun j _ => exp_score (h j)
  have hsum' : ∑ j, Ideal.exp (t j - (M : EReal)) = (((∑ j, expR (t j)) * Real.exp (-M) : ℝ) : EReal) := by
    rw [Finset.sum_mul, coe_sum]; exact Finset.sum_congr rfl fun j _ => exp_sub (h j) M
  rw [hsum, hsum', div_coe _ hpos.ne', sum_mul_coe _ _ (inv_nonneg.mpr hpos.le)]
  refine Finset.sum_congr rfl fun j _ => ?_
  rw [exp_sub (h j), div_coe _ (mul_ne_zero hpos.ne' hM'), ← EReal.coe_mul, exp_score (h j), mul_comm (expR (t j) : EReal), mul_assoc, ← EReal.coe_mul]
  congr 2
  field_simp

end Cert.Softmax

end
-- ==== Proof.Finite.lean ====
/-
What the precondition says: the queries' factors and the keys are finite numbers.
-/
module

public import proofs.«01_k».proof.Proof.Gen.Pre_finite_KernelIdeal
public import proofs.«01_k».proof.Proof.Softmax
public import Idealize.ShloMosaic.Lib.ReduceAll

@[expose] public section

noncomputable section

namespace Cert.Softmax

open Idealize.ShloMosaic Cert.Pre_finite_KernelIdeal Cert.Pre_finite_KernelIdeal.Gen

theorem posInf : Ideal.ofBits .f32 0x7F800000#32 = ⊤ := by simp [Ideal.ofBits, Ideal.ieee]

theorem real_of_olt {a : EReal} (h : FloatOps.cmpf (F := Ideal) (φ := .f32) .olt (FloatOps.hostAbsf (F := Ideal) (φ := .f32) a) (Ideal.ofBits .f32 0x7F800000#32) = 1#1) : IsReal a := by
  apply IsReal.of_abs_lt
  rw [posInf] at h
  have h' : BitVec.ofBool (decide (max a (-a) < ⊤)) = 1#1 := h
  by_contra hn
  rw [decide_eq_false hn] at h'
  exact absurd h' (by decide)

theorem andi_eq_one : ∀ {a b : BitVec 1}, IntOp.andi a b = 1#1 → a = 1#1 ∧ b = 1#1 := by decide

theorem finite_args (x : FVec Ideal S2x128x512 .f32) (wq : FVec Ideal S512x256 .f32) (k v : FVec Ideal S2x128x4x64 .f32) (wo : FVec Ideal S256x512 .f32)
    (h : Cert.Pre_finite_KernelIdeal.fn (F := Ideal) x wq k v wo = fun _ => 1#1) : (∀ i, IsReal (x i)) ∧ (∀ i, IsReal (wq i)) ∧ ∀ i, IsReal (k i) := by
  have h0 := congrFun h ix0
  dsimp only [Cert.Pre_finite_KernelIdeal.fn] at h0
  obtain ⟨h1, hk⟩ := andi_eq_one h0
  obtain ⟨hx, hw⟩ := andi_eq_one h1
  haveI : Subsingleton S_.Idx := ⟨fun a b => funext fun i => i.elim0⟩
  exact ⟨fun i => real_of_olt (Host.reduce_andi_all _ _ _ _ _ hx i), fun i => real_of_olt (Host.reduce_andi_all _ _ _ _ _ hw i),
    fun i => real_of_olt (Host.reduce_andi_all _ _ _ _ _ hk i)⟩

end Cert.Softmax

end
-- ==== Proof.Agree.lean ====
/-
The kernel's result is the reference's: on each device, the device's block of it.
-/
module

public import proofs.«01_k».proof.Proof.KernelIdealAt
public import proofs.«01_k».proof.Proof.KernelIdealLaunch
public import proofs.«01_k».proof.Proof.ReferenceAt
public import proofs.«01_k».proof.Proof.Finite
public import Idealize.ShloMosaic.Lib.Layout

@[expose] public section

noncomputable section

namespace Cert.Agree

open Idealize.ShloMosaic Cert.Softmax
open Idealize.ShloMosaic.TcCoe

/-! ## Rows and keys of the whole sequence -/

/-- Row `i` of device `c`, as a row of the whole sequence. -/
abbrev row (c : Fin 4) (i : Fin 128) : Fin 512 := ⟨c.val * 128 + i.val, by omega⟩

/-- A sum over the whole sequence, device by device. -/
theorem sum_row {M : Type} [AddCommMonoid M] (f : Fin 512 → M) : ∑ k, f k = ∑ s : Fin 4, ∑ j : Fin 128, f (row s j) := by
  rw [← Fintype.sum_prod_type' fun s j => f (row s j)]
  exact (Fintype.sum_equiv (finProdFinEquiv (m := 4) (n := 128)) _ _ fun x => congrArg f (Fin.ext (by
    show x.1.val * 128 + x.2.val = x.2.val + 128 * x.1.val; omega))).symm

theorem block3 (c : Fin 4) (X : (⟨3, ![2, 512, 512]⟩ : Shape).Idx → EReal) (b : Fin 2) (i : Fin 128) (e : Fin 512) :
    Layout.block ⟨3, ![2, 128, 512]⟩ ⟨3, ![2, 512, 512]⟩ 1 4 c X (by decide) (ix3 b i e) = X (ix3 b (row c i) e) := by
  rw [Layout.block_apply]
  congr 1
  funext a
  apply Fin.ext
  fin_cases a <;> rfl
theorem block4 (c : Fin 4) (X : (⟨4, ![2, 512, 4, 64]⟩ : Shape).Idx → EReal) (b : Fin 2) (i : Fin 128) (h : Fin 4) (d : Fin 64) :
    Layout.block ⟨4, ![2, 128, 4, 64]⟩ ⟨4, ![2, 512, 4, 64]⟩ 1 4 c X (by decide) (ix4 b i h d) = X (ix4 b (row c i) h d) := by
  rw [Layout.block_apply]
  congr 1
  funext a
  apply Fin.ext
  fin_cases a <;> rfl

/-! ## The reference's scores are finite or minus infinity, a row's own finite -/

section
variable (x : FVec Ideal Cert.ReferenceIdeal.S2x512x512 .f32) (wq : FVec Ideal Cert.ReferenceIdeal.S512x256 .f32) (k v : FVec Ideal Cert.ReferenceIdeal.S2x512x4x64 .f32)
  (wo : FVec Ideal Cert.ReferenceIdeal.S256x512 .f32)

theorem eighth : IsReal (Ideal.ofBits .f32 0x3E000000#32) := ⟨8388608 * (2 ^ 26)⁻¹, by simp [Ideal.ofBits, Ideal.ieee]⟩

variable (hx : ∀ i, IsReal (x i)) (hw : ∀ i, IsReal (wq i)) (hk : ∀ i, IsReal (k i))
include hx hw hk

theorem score (b : Fin 2) (h : Fin 4) (i j : Fin 512) : Score (Cert.ReferenceProof.scores x wq k (ix4 b h i j)) := by
  rw [Cert.ReferenceProof.scores_at]
  split_ifs
  · exact Or.inr ((IsReal.sum fun d => (IsReal.sum fun e => (hx _).mul (hw _)).mul (hk _)).mul eighth)
  · exact Or.inl rfl
theorem score_self (b : Fin 2) (h : Fin 4) (i : Fin 512) : IsReal (Cert.ReferenceProof.scores x wq k (ix4 b h i i)) := by
  rw [Cert.ReferenceProof.scores_at, if_pos le_rfl]
  exact (IsReal.sum fun d => (IsReal.sum fun e => (hx _).mul (hw _)).mul (hk _)).mul eighth

/-- The reference's result by the kernel's way of averaging. -/
theorem result_eq (b : Fin 2) (i n : Fin 512) : Cert.ReferenceProof.result x wq k v wo (ix3 b i n)
    = ∑ h : Fin 4, ∑ d : Fin 64, Ideal.div (∑ j, Ideal.exp (Cert.ReferenceProof.scores x wq k (ix4 b h i j)) * v (ix4 b j h d))
        (∑ j, Ideal.exp (Cert.ReferenceProof.scores x wq k (ix4 b h i j))) * wo (ix2 (Cert.KernelIdealProof.col h d) n) := by
  rw [Cert.ReferenceProof.result_at, Cert.KernelIdealProof.sum_col]
  refine Finset.sum_congr rfl fun h _ => Finset.sum_congr rfl fun d _ => congrArg (· * wo (ix2 (Cert.KernelIdealProof.col h d) n)) ?_
  rw [average (fun j => Cert.ReferenceProof.scores x wq k (ix4 b h i j)) (fun j => score x wq k hx hw hk b h i j) (score_self x wq k hx hw hk b h i) fun j => v (ix4 b j h d)]
  simp only [Cert.KernelIdealProof.col_head, Cert.KernelIdealProof.col_lane, Cert.ReferenceProof.weights_at, Cert.ReferenceProof.powers_at, Cert.ReferenceProof.top_at]
end

/-! ## The result array is what the body leaves in it -/

section
open Cert.KernelIdeal Cert.KernelIdeal.Gen Cert.KernelIdealProof Idealize.ShloMosaic.Pipeline

/-- The body runs once and its block is the whole result array. -/
theorem result_outC (m : (ℓ : Loc nD τ sig) → Buf (Elt Ideal) ℓ) (c : Dev nD) : result m c = outC m c := by
  have h : (win0_0.blk (0 : Fin 1)).view.read (Elt Ideal) (result m c) = outC m c := by
    unfold result
    rw [show cfg0.N = ((0 : Fin 1) : Fin cfg0.N).val + 1 from rfl, (dats m 0 c).arrAt_succ (0 : Fin 1) (0 : Fin 1)]
    rw [show (cfg0.win 0).flush (0 : Fin 1) = true from by decide, if_pos rfl]
    exact View.read_write_univ _ _
  have hz : (fun a => win0_0.index (0 : Fin 1) a * main_v1.ty.shape.size a) = fun _ => 0 := funext fun a => by fin_cases a <;> decide
  exact (Memref.read_access_unit_zero (Elt Ideal) main_v1 hz (fun a => by fin_cases a <;> decide) (result m c)).symm.trans h
end

/-! ## The kernel's result -/

section
open Cert.KernelIdeal Cert.KernelIdealProof

variable (m : (ℓ : Loc nD τ sig) → Buf (Elt Ideal) ℓ)
variable (x : FVec Ideal Cert.ReferenceIdeal.S2x512x512 .f32) (wq : FVec Ideal Cert.ReferenceIdeal.S512x256 .f32) (k v : FVec Ideal Cert.ReferenceIdeal.S2x512x4x64 .f32)
  (wo : FVec Ideal Cert.ReferenceIdeal.S256x512 .f32)

/-- The devices hold their blocks of the arguments. -/
structure Blocks : Prop where
  hx : ∀ c b i e, argX m c (ix3 b i e) = x (ix3 b (row c i) e)
  hwq : ∀ c, argWq m c = wq
  hk : ∀ c b i h d, argK m c (ix4 b i h d) = k (ix4 b (row c i) h d)
  hv : ∀ c b i h d, argV m c (ix4 b i h d) = v (ix4 b (row c i) h d)
  hwo : ∀ c, argWo m c = wo

variable {m x wq k v wo}
variable (H : Blocks m x wq k v wo)
include H

/-- The kernel's weights are the exponentials of the reference's scores. -/
theorem weight (c : Fin 4) (q : FVec Ideal S128x256 .f32) (b : Fin 2) (hq : ∀ i f, q (ix2 i f) = ∑ e : Fin 512, argX m c (ix3 b i e) * argWq m c (ix2 e f))
    (h s : Fin 4) (i j : Fin 128) :
    headW (BitVec.ofNat 32 c.val) q (fun _ => KV m) b h s (ix2 i j) = Ideal.exp (Cert.ReferenceProof.scores x wq k (ix4 b h (row c i) (row s j))) := by
  rw [headW_at, Cert.ReferenceProof.scores_at]
  congr 1
  have hi := i.isLt
  have hj := j.isLt
  refine if_congr (by show _ ↔ (s.val * 128 + j.val) / 64 ≤ (c.val * 128 + i.val) / 64; omega) (congrArg (· * Ideal.ofBits .f32 0x3E000000#32) ?_) rfl
  refine Finset.sum_congr rfl fun d _ => ?_
  have hK : arrKV (KV m) (ix5 s 0 b j (col h d)) = k (ix4 b (row s j) h d) := (KV_keys m s b j h d).trans (H.hk s b j h d)
  rw [hK, hq]
  refine congrArg (· * k (ix4 b (row s j) h d)) (Finset.sum_congr rfl fun e _ => ?_)
  rw [H.hx, H.hwq]
  exact congrArg (fun f => x (ix3 b (row c i) e) * wq (ix2 e f)) (Fin.ext (by show 64 * h.val + d.val = h.val * 64 + d.val; omega))

/-- A key's contribution: on a slot that is not to be seen the weight is zero, and the value does not matter. -/
theorem term (c : Fin 4) (q : FVec Ideal S128x256 .f32) (b : Fin 2) (hq : ∀ i f, q (ix2 i f) = ∑ e : Fin 512, argX m c (ix3 b i e) * argWq m c (ix2 e f))
    (h s : Fin 4) (i j : Fin 128) (d : Fin 64) :
    headW (BitVec.ofNat 32 c.val) q (fun _ => KV m) b h s (ix2 i j) * headV (BitVec.ofNat 32 c.val) (fun _ => KV m) b h s (ix2 j d)
      = Ideal.exp (Cert.ReferenceProof.scores x wq k (ix4 b h (row c i) (row s j))) * v (ix4 b (row s j) h d) := by
  rw [weight H c q b hq, headV_at]
  by_cases hs : s ≤ c
  · have hV : arrKV (KV m) (ix5 s 1 b j (col h d)) = v (ix4 b (row s j) h d) := (KV_values m s b j h d).trans (H.hv s b j h d)
    rw [if_pos hs, hV]
  · have hs' : c.val < s.val := not_le.mp hs
    have hi := i.isLt
    rw [Cert.ReferenceProof.scores_at, if_neg (by show ¬(s.val * 128 + j.val) / 64 ≤ (c.val * 128 + i.val) / 64; omega), Ideal.exp_bot, zero_mul, zero_mul]

theorem rowO_eq (c : Fin 4) (q : FVec Ideal S128x256 .f32) (b : Fin 2) (hq : ∀ i f, q (ix2 i f) = ∑ e : Fin 512, argX m c (ix3 b i e) * argWq m c (ix2 e f))
    (hx : ∀ i, IsReal (x i)) (hw : ∀ i, IsReal (wq i)) (hk : ∀ i, IsReal (k i)) (i : Fin 128) (n : Fin 512) :
    rowO (BitVec.ofNat 32 c.val) q (fun _ => KV m) b (argWo m c) (ix3 0 i n) = Cert.ReferenceProof.result x wq k v wo (ix3 b (row c i) n) := by
  rw [rowO_at, result_eq x wq k v wo hx hw hk]
  refine Finset.sum_congr rfl fun h _ => Finset.sum_congr rfl fun d _ => ?_
  rw [H.hwo, headO_at, headA_at, headL_at, sum_row, sum_row]
  simp only [term H c q b hq]
  simp only [weight H c q b hq]

theorem outC_eq (hx : ∀ i, IsReal (x i)) (hw : ∀ i, IsReal (wq i)) (hk : ∀ i, IsReal (k i)) (c : Dev nD) (b : Fin 2) (i : Fin 128) (n : Fin 512) :
    outC m c (ix3 b i n) = Cert.ReferenceProof.result x wq k v wo (ix3 b (row c i) n) := by
  obtain rfl | rfl : b = 0 ∨ b = 1 := by omega
  · exact (outC_at0 m c i n).trans (rowO_eq H c _ 0 (query0_at m c) hx hw hk i n)
  · exact (outC_at1 m c i n).trans (rowO_eq H c _ 1 (query1_at m c) hx hw hk i n)

/-- The result array of a device is its block of the reference's result. -/
theorem result_block (hx : ∀ i, IsReal (x i)) (hw : ∀ i, IsReal (wq i)) (hk : ∀ i, IsReal (k i)) (c : Dev nD) :
    (result m c : FVec Ideal S2x128x512 .f32) = Layout.block ⟨3, ![2, 128, 512]⟩ ⟨3, ![2, 512, 512]⟩ 1 4 c (Cert.ReferenceProof.result x wq k v wo) := by
  have h (b : Fin 2) (i : Fin 128) (n : Fin 512) : (result m c : FVec Ideal S2x128x512 .f32) (ix3 b i n)
      = Layout.block ⟨3, ![2, 128, 512]⟩ ⟨3, ![2, 512, 512]⟩ 1 4 c (Cert.ReferenceProof.result x wq k v wo) (by decide) (ix3 b i n) :=
    ((congrFun (result_outC m c) _).trans (outC_eq H hx hw hk c b i n)).trans (block3 c _ b i n).symm
  refine funext fun (i : S2x128x512.Idx) => ?_
  have hi : ix3 (i 0) (i 1) (i 2) = i := ix3_eta i
  exact hi ▸ h (i 0) (i 1) (i 2)
end

/-! ## Whole arrays and their blocks -/

/-- Every row of the whole sequence is some device's. -/
theorem row_of (i : Fin 512) : ∃ c j, i = row c j :=
  ⟨⟨i.val / 128, by omega⟩, ⟨i.val % 128, by omega⟩, Fin.ext (by show i.val = i.val / 128 * 128 + i.val % 128; omega)⟩

/-- If each device's part of the whole rows is finite, so is the whole. -/
theorem finite3 (X : (⟨3, ![2, 512, 512]⟩ : Shape).Idx → EReal) (h : ∀ (c : Fin 4) i, IsReal (Layout.block ⟨3, ![2, 128, 512]⟩ ⟨3, ![2, 512, 512]⟩ 1 4 c X (by decide) i)) :
    ∀ i, IsReal (X i) := fun i => by
  obtain ⟨c, j, hj⟩ := row_of (i 1)
  have hi : ix3 (i 0) (row c j) (i 2) = i := hj ▸ ix3_eta i
  exact hi ▸ block3 c X (i 0) j (i 2) ▸ h c (ix3 (i 0) j (i 2))
theorem finite4 (X : (⟨4, ![2, 512, 4, 64]⟩ : Shape).Idx → EReal) (h : ∀ (c : Fin 4) i, IsReal (Layout.block ⟨4, ![2, 128, 4, 64]⟩ ⟨4, ![2, 512, 4, 64]⟩ 1 4 c X (by decide) i)) :
    ∀ i, IsReal (X i) := fun i => by
  obtain ⟨c, j, hj⟩ := row_of (i 1)
  have hi : ix4 (i 0) (row c j) (i 2) (i 3) = i := hj ▸ ix4_eta i
  exact hi ▸ block4 c X (i 0) j (i 2) (i 3) ▸ h c (ix4 (i 0) j (i 2) (i 3))

end Cert.Agree

end
-- ==== Proof.lean ====
/-
The claims. Each device's kernel is followed step by step in the modules named after it; here are their conclusions.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.KernelLaunch
public import proofs.«01_k».proof.Proof.KernelIdealLaunch
public import proofs.«01_k».proof.Proof.Agree
public import Idealize.ShloMosaic.Adequacy
public import Idealize.ShloMosaic.Init

@[expose] public section

noncomputable section

namespace Cert.Proof

open Idealize.ShloMosaic Idealize.SL.Sem

theorem kernel_frame : Cert.quiescent_Kernel (hKernel := Cert.Kernel.Gen.facts) := fun m g _ =>
  (θ_run _ _ _).mono (fun _ h => ⟨fun c => (h.1 c).2, h.2⟩) (Cert.KernelProof.run_main m g)

theorem kernelIdeal_frame : Cert.quiescent_KernelIdeal (hKernelIdeal := Cert.KernelIdeal.Gen.facts) := fun m g _ =>
  (θ_run _ _ _).mono (fun _ h => ⟨fun c => (h.1 c).2, h.2⟩) (Cert.KernelIdealProof.run_main m g)

theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- From blocks of the reference's arguments, with finite queries' factors and keys, every device's result array ends
    as its block of the reference's result. -/
theorem agree : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := fun m g m' g' hfin hblk => by
  have hf := fun c => Cert.Softmax.finite_args _ _ _ _ _ (hfin c)
  have hx := Cert.Agree.finite3 _ fun c i => (hblk c).1 ▸ (hf c).1 i
  have hw := fun i => (hblk 0).2.1 ▸ (hf 0).2.1 i
  have hk := Cert.Agree.finite4 _ fun c i => (hblk c).2.2.1 ▸ (hf c).2.2 i
  have H : Cert.Agree.Blocks m _ _ _ _ _ :=
    { hx := fun c b i e => (congrFun (hblk c).1 (ix3 b i e)).trans (Cert.Agree.block3 c _ b i e)
      hwq := fun c => (hblk c).2.1
      hk := fun c b i h d => (congrFun (hblk c).2.2.1 (ix4 b i h d)).trans (Cert.Agree.block4 c _ b i h d)
      hv := fun c b i h d => (congrFun (hblk c).2.2.2.1 (ix4 b i h d)).trans (Cert.Agree.block4 c _ b i h d)
      hwo := fun c => (hblk c).2.2.2.2 }
  refine ⟨Cert.ReferenceIdeal.Value.res_main_v33 m' 0, ?_, (θ_run _ _ _).mono (fun _ h => h 0) (Cert.ReferenceIdeal.Value.run m' g')⟩
  refine (θ_run _ _ _).mono (fun r h c => ⟨(h.1 c).1.trans ?_, (h.1 c).2⟩) (Cert.KernelIdealProof.run_main m g)
  exact (Cert.Agree.result_block H hx hw hk c).trans
    (congrArg (fun v => Layout.block ⟨3, ![2, 128, 512]⟩ ⟨3, ![2, 512, 512]⟩ 1 4 c v) (Cert.ReferenceProof.res_eq m' 0).symm)

theorem claim : Cert.Claim :=
  ⟨Cert.Kernel.Gen.facts, Cert.KernelIdeal.Gen.facts, Cert.ReferenceIdeal.Gen.facts, Cert.Pre_finite_KernelIdeal.Gen.facts, Cert.Pre_finite_ReferenceIdeal.Gen.facts,
    kernel_frame, kernelIdeal_frame, fun m g _ => kernelIdeal_frame m g trivial, reference_frame, fun m g _ => reference_frame m g trivial,
    IdealRules.named_const.statement Cert.KernelIdeal.κ "mask" .f32 0xCE6E6B28#32 ⊥ rfl, agree⟩

end Cert.Proof

end
